-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_anchors_in_range [hPre_anchors_in_range : Cert.Pre_anchors_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_anchors_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_anchors_in_range [hPre_anchors_in_range : Cert.Pre_anchors_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_anchors_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_anchors_in_range [hKernelIdeal : Cert.KernelIdeal.Facts] [hPre_anchors_in_range : Cert.Pre_anchors_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_anchors_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_anchors_in_range [hReferenceIdeal : Cert.ReferenceIdeal.Facts] [hPre_anchors_in_range : Cert.Pre_anchors_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_anchors_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S77x16x2x128 Cert.KernelIdeal.S77x16x1x128
  ∧ IdealRules.bf16_pair.Statement Cert.KernelIdeal.S1x1x32x128 Cert.KernelIdeal.S1x1x16x128
  ∧ IdealRules.bf16_pair.Statement Cert.KernelIdeal.S32x128 Cert.KernelIdeal.S16x128
  ∧ IdealRules.bf16_pair.Statement Cert.KernelIdeal.S1x16x2x128 Cert.KernelIdeal.S1x16x1x128

def algebraic_KernelIdeal_ReferenceIdeal_pre_anchors_in_range [hKernelIdeal : Cert.KernelIdeal.Facts] [hReferenceIdeal : Cert.ReferenceIdeal.Facts] [hPre_anchors_in_range : Cert.Pre_anchors_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_anchors_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_3)) (v5 : (c : Dev Cert.KernelIdeal.nD) → Buf (Elt Ideal) ((c.tc : Thread Cert.KernelIdeal.nD Cert.KernelIdeal.τ).loc Cert.KernelIdeal.main_v0_4)) (v6 : (c : Dev Cert.KernelIdeal.nD) → Buf (Elt Ideal) ((c.tc : Thread Cert.KernelIdeal.nD Cert.KernelIdeal.τ).loc Cert.KernelIdeal.main_v1_1)) (v7 : (c : Dev Cert.KernelIdeal.nD) → Buf (Elt Ideal) ((c.tc : Thread Cert.KernelIdeal.nD Cert.KernelIdeal.τ).loc Cert.KernelIdeal.main_v1_2)) (v8 : (c : Dev Cert.KernelIdeal.nD) → Buf (Elt Ideal) ((c.tc : Thread Cert.KernelIdeal.nD Cert.KernelIdeal.τ).loc Cert.KernelIdeal.main_v1_3)) (v9 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_3) = v4 c
          ∧ r.2.mem ((c.tc : Thread Cert.KernelIdeal.nD Cert.KernelIdeal.τ).loc Cert.KernelIdeal.main_v0_4) = v5 c
          ∧ r.2.mem ((c.tc : Thread Cert.KernelIdeal.nD Cert.KernelIdeal.τ).loc Cert.KernelIdeal.main_v1_1) = v6 c
          ∧ r.2.mem ((c.tc : Thread Cert.KernelIdeal.nD Cert.KernelIdeal.τ).loc Cert.KernelIdeal.main_v1_2) = v7 c
          ∧ r.2.mem ((c.tc : Thread Cert.KernelIdeal.nD Cert.KernelIdeal.τ).loc Cert.KernelIdeal.main_v1_3) = v8 c
          ∧ r.2.mem ((c.tc : Thread Cert.KernelIdeal.nD Cert.KernelIdeal.τ).loc Cert.KernelIdeal.main_v1_4) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_anchors_in_range : Cert.Pre_anchors_in_range.Facts),
    quiescent_Kernel (hKernel := hKernel)
    ∧ quiescent_KernelIdeal (hKernelIdeal := hKernelIdeal)
    ∧ quiescent_KernelIdeal_pre_anchors_in_range (hKernelIdeal := hKernelIdeal) (hPre_anchors_in_range := hPre_anchors_in_range)
    ∧ quiescent_ReferenceIdeal (hReferenceIdeal := hReferenceIdeal)
    ∧ quiescent_ReferenceIdeal_pre_anchors_in_range (hReferenceIdeal := hReferenceIdeal) (hPre_anchors_in_range := hPre_anchors_in_range)
    ∧ preserves_Kernel_KernelIdeal
    ∧ algebraic_KernelIdeal_ReferenceIdeal_pre_anchors_in_range (hKernelIdeal := hKernelIdeal) (hReferenceIdeal := hReferenceIdeal) (hPre_anchors_in_range := hPre_anchors_in_range)
-- ==== Pre_anchors_in_range.lean ====
abbrev S2x768x64x128 : Shape := ⟨4, ![2, 768, 64, 128]⟩
abbrev S2x77x64x128 : Shape := ⟨4, ![2, 77, 64, 128]⟩
abbrev S_ : Shape := ⟨0, ![]⟩
abbrev S2x64x128 : Shape := ⟨3, ![2, 64, 128]⟩

class Facts : Prop where
  slicesBy_S2x768x64x128_S2x77x64x128_0s1_0s10_0s1_0s1 : S2x768x64x128.SlicesBy (![0, 0, 0, 0] : Fin 4 → Nat) ![1, 10, 1, 1] S2x77x64x128
  bitsLt_bf16_f32 : FTy.bits .bf16 < FTy.bits .f32
  reducesTo_S2x77x64x128_S2x64x128_d1 : S2x77x64x128.ReducesTo [1] S2x64x128
  h_S_ : 0 < S_.numel
  bcast_S_S2x64x128 : S_.BroadcastsInDim S2x64x128 (![] : Fin 0 → Fin S2x64x128.rank)

variable [Facts]

def fn_part1 {F : FTy → Type} [FloatOps F] (main_v11 : IVec S2x64x128 1) (main_v15 : FVec F S2x64x128 .f32) (main_v17 : IVec S2x64x128 1) : IVec S2x64x128 1 :=
  let main_cst_5 : FVec F S_ .f32 := constant S_ .f32 0x04E00000#32
  let main_v18 : FVec F S2x64x128 .f32 := broadcastInDim S2x64x128 ![] bcast_S_S2x64x128 main_cst_5
  let main_v19 : IVec S2x64x128 1 := cmpf .oge main_v15 main_v18
  let main_cst_6 : FVec F S_ .f32 := constant S_ .f32 0x7F7F0000#32
  let main_v20 : FVec F S2x64x128 .f32 := broadcastInDim S2x64x128 ![] bcast_S_S2x64x128 main_cst_6
  let main_v21 : IVec S2x64x128 1 := cmpf .ole main_v15 main_v20
  let main_v22 : IVec S2x64x128 1 := andi main_v19 main_v21
  let main_v23 : IVec S2x64x128 1 := ori main_v17 main_v22
  let main_v24 : IVec S2x64x128 1 := andi main_v11 main_v23
  main_v24

def fn {F : FTy → Type} [FloatOps F] (main_arg0 : FVec F S2x768x64x128 .bf16) (main_arg1 : FVec F S2x768x64x128 .bf16) : IVec S2x64x128 1 :=
  let main_v0 : FVec F S2x77x64x128 .bf16 := (Host.slice S2x77x64x128 ![0, 0, 0, 0] ![1, 10, 1, 1] · slicesBy_S2x768x64x128_S2x77x64x128_0s1_0s10_0s1_0s1) main_arg0
  let main_v1 : FVec F S2x77x64x128 .f32 := (extf .f32 · bitsLt_bf16_f32) main_v0
  let main_v2 : FVec F S2x77x64x128 .f32 := Host.absf main_v1
  let main_cst : FVec F S_ .f32 := constant S_ .f32 0xFF800000#32
  let main_v3 : FVec F S2x64x128 .f32 := (fun x v => Host.reduce FloatOps.maximumf x v reducesTo_S2x77x64x128_S2x64x128_d1 h_S_) main_v2 main_cst
  let main_cst_0 : FVec F S_ .f32 := constant S_ .f32 0x00000000#32
  let main_v4 : FVec F S2x64x128 .f32 := broadcastInDim S2x64x128 ![] bcast_S_S2x64x128 main_cst_0
  let main_v5 : IVec S2x64x128 1 := cmpf .oeq main_v3 main_v4
  let main_cst_1 : FVec F S_ .f32 := constant S_ .f32 0x04E00000#32
  let main_v6 : FVec F S2x64x128 .f32 := broadcastInDim S2x64x128 ![] bcast_S_S2x64x128 main_cst_1
  let main_v7 : IVec S2x64x128 1 := cmpf .oge main_v3 main_v6
  let main_cst_2 : FVec F S_ .f32 := constant S_ .f32 0x7F7F0000#32
  let main_v8 : FVec F S2x64x128 .f32 := broadcastInDim S2x64x128 ![] bcast_S_S2x64x128 main_cst_2
  let main_v9 : IVec S2x64x128 1 := cmpf .ole main_v3 main_v8
  let main_v10 : IVec S2x64x128 1 := andi main_v7 main_v9
  let main_v11 : IVec S2x64x128 1 := ori main_v5 main_v10
  let main_v12 : FVec F S2x77x64x128 .bf16 := (Host.slice S2x77x64x128 ![0, 0, 0, 0] ![1, 10, 1, 1] · slicesBy_S2x768x64x128_S2x77x64x128_0s1_0s10_0s1_0s1) main_arg1
  let main_v13 : FVec F S2x77x64x128 .f32 := (extf .f32 · bitsLt_bf16_f32) main_v12
  let main_v14 : FVec F S2x77x64x128 .f32 := Host.absf main_v13
  let main_cst_3 : FVec F S_ .f32 := constant S_ .f32 0xFF800000#32
  let main_v15 : FVec F S2x64x128 .f32 := (fun x v => Host.reduce FloatOps.maximumf x v reducesTo_S2x77x64x128_S2x64x128_d1 h_S_) main_v14 main_cst_3
  let main_cst_4 : FVec F S_ .f32 := constant S_ .f32 0x00000000#32
  let main_v16 : FVec F S2x64x128 .f32 := broadcastInDim S2x64x128 ![] bcast_S_S2x64x128 main_cst_4
  let main_v17 : IVec S2x64x128 1 := cmpf .oeq main_v15 main_v16
  fn_part1 (F := F) main_v11 main_v15 main_v17
-- ==== Kernel.lean ====
abbrev S2x768x64x128 : Shape := ⟨4, ![2, 768, 64, 128]⟩
abbrev S2x77x64x128 : Shape := ⟨4, ![2, 77, 64, 128]⟩
abbrev S2x64x128 : Shape := ⟨3, ![2, 64, 128]⟩
abbrev S2x384x64x128 : Shape := ⟨4, ![2, 384, 64, 128]⟩
abbrev S1x768x32x128 : Shape := ⟨4, ![1, 768, 32, 128]⟩
abbrev S1x77x32x128 : Shape := ⟨4, ![1, 77, 32, 128]⟩
abbrev S1x32x128 : Shape := ⟨3, ![1, 32, 128]⟩
abbrev S1x384x32x128 : Shape := ⟨4, ![1, 384, 32, 128]⟩
abbrev S77x16x128 : Shape := ⟨3, ![77, 16, 128]⟩
abbrev S77x32x128 : Shape := ⟨3, ![77, 32, 128]⟩
abbrev S32x128 : Shape := ⟨2, ![32, 128]⟩
abbrev S768x32x128 : Shape := ⟨3, ![768, 32, 128]⟩
abbrev S768x16x128 : Shape := ⟨3, ![768, 16, 128]⟩
abbrev S1x16x128 : Shape := ⟨3, ![1, 16, 128]⟩
abbrev S1x1x32x128 : Shape := ⟨4, ![1, 1, 32, 128]⟩
abbrev S1x1x16x128 : Shape := ⟨4, ![1, 1, 16, 128]⟩
abbrev S16x128 : Shape := ⟨2, ![16, 128]⟩

abbrev nBuf : Space → Nat
  | .hbm => 12
  | .vmem => 30
  | .smem => 0
  | _ => 0

abbrev bufTy : (tb : Table) → Fin (tcTables nBuf tb) → BufTy
  | .hbm, ⟨0, _⟩ => ⟨S2x768x64x128, .bf16⟩
  | .hbm, ⟨1, _⟩ => ⟨S2x768x64x128, .bf16⟩
  | .hbm, ⟨2, _⟩ => ⟨S2x768x64x128, .bf16⟩
  | .hbm, ⟨3, _⟩ => ⟨S2x77x64x128, .fp8e4m3⟩
  | .hbm, ⟨4, _⟩ => ⟨S2x64x128, .f32⟩
  | .hbm, ⟨5, _⟩ => ⟨S2x384x64x128, .i8⟩
  | .hbm, ⟨6, _⟩ => ⟨S2x64x128, .f32⟩
  | .hbm, ⟨7, _⟩ => ⟨S2x768x64x128, .bf16⟩
  | .hbm, ⟨8, _⟩ => ⟨S2x77x64x128, .fp8e4m3⟩
  | .hbm, ⟨9, _⟩ => ⟨S2x64x128, .f32⟩
  | .hbm, ⟨10, _⟩ => ⟨S2x384x64x128, .i8⟩
  | .hbm, ⟨11, _⟩ => ⟨S2x64x128, .f32⟩
  | .local _ .vmem, ⟨0, _⟩ => ⟨S1x768x32x128, .bf16⟩
  | .local _ .vmem, ⟨1, _⟩ => ⟨S1x768x32x128, .bf16⟩
  | .local _ .vmem, ⟨2, _⟩ => ⟨S1x768x32x128, .bf16⟩
  | .local _ .vmem, ⟨3, _⟩ => ⟨S1x768x32x128, .bf16⟩
  | .local _ .vmem, ⟨4, _⟩ => ⟨S1x77x32x128, .fp8e4m3⟩
  | .local _ .vmem, ⟨5, _⟩ => ⟨S1x77x32x128, .fp8e4m3⟩
  | .local _ .vmem, ⟨6, _⟩ => ⟨S1x32x128, .f32⟩
  | .local _ .vmem, ⟨7, _⟩ => ⟨S1x32x128, .f32⟩
  | .local _ .vmem, ⟨8, _⟩ => ⟨S1x384x32x128, .i8⟩
  | .local _ .vmem, ⟨9, _⟩ => ⟨S1x384x32x128, .i8⟩
  | .local _ .vmem, ⟨10, _⟩ => ⟨S1x32x128, .f32⟩
  | .local _ .vmem, ⟨11, _⟩ => ⟨S1x32x128, .f32⟩
  | .local _ .vmem, ⟨12, _⟩ => ⟨S77x16x128, .i32⟩
  | .local _ .vmem, ⟨13, _⟩ => ⟨S77x16x128, .i32⟩
  | .local _ .vmem, ⟨14, _⟩ => ⟨S77x32x128, .f32⟩
  | .local _ .vmem, ⟨15, _⟩ => ⟨S1x768x32x128, .bf16⟩
  | .local _ .vmem, ⟨16, _⟩ => ⟨S1x768x32x128, .bf16⟩
  | .local _ .vmem, ⟨17, _⟩ => ⟨S1x768x32x128, .bf16⟩
  | .local _ .vmem, ⟨18, _⟩ => ⟨S1x768x32x128, .bf16⟩
  | .local _ .vmem, ⟨19, _⟩ => ⟨S1x77x32x128, .fp8e4m3⟩
  | .local _ .vmem, ⟨20, _⟩ => ⟨S1x77x32x128, .fp8e4m3⟩
  | .local _ .vmem, ⟨21, _⟩ => ⟨S1x32x128, .f32⟩
  | .local _ .vmem, ⟨22, _⟩ => ⟨S1x32x128, .f32⟩
  | .local _ .vmem, ⟨23, _⟩ => ⟨S1x384x32x128, .i8⟩
  | .local _ .vmem, ⟨24, _⟩ => ⟨S1x384x32x128, .i8⟩
  | .local _ .vmem, ⟨25, _⟩ => ⟨S1x32x128, .f32⟩
  | .local _ .vmem, ⟨26, _⟩ => ⟨S1x32x128, .f32⟩
  | .local _ .vmem, ⟨27, _⟩ => ⟨S77x16x128, .i32⟩
  | .local _ .vmem, ⟨28, _⟩ => ⟨S77x16x128, .i32⟩
  | .local _ .vmem, ⟨29, _⟩ => ⟨S77x32x128, .f32⟩
  | _, _ => ⟨S2x768x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [BitOps F]

abbrev grid0 : Pipeline.Grid := ⟨2, ![2, 2], ![false, false]⟩

@[reducible] def k0_t1_loop : Scf.Loop 32 :=
  let c0_i32_0 : BitVec 32 := 0#32
  let c76_i32 : BitVec 32 := 76#32
  let v1 : BitVec 32 := Scalar.addi c0_i32_0 c76_i32
  let c1_i32 : BitVec 32 := 1#32
  ⟨c0_i32_0, v1, c1_i32⟩
def k0_off1 (k0_t1 : Fin k0_t1_loop.trips) : Fin 4 → Nat :=
  let c0_i32 : BitVec 32 := 0#32
  let c0_i32_0 : BitVec 32 := 0#32
  let c1_i32 : BitVec 32 := 1#32
  let arg11 : BitVec 32 := Scf.iv c0_i32_0 c1_i32 k0_t1
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k0_off2 (k0_t1 : Fin k0_t1_loop.trips) (c1_i32_253 : BitVec 32) : Fin 4 → Nat :=
  let c0_i32 : BitVec 32 := 0#32
  let c0_i32_0 : BitVec 32 := 0#32
  let c1_i32 : BitVec 32 := 1#32
  let arg11 : BitVec 32 := Scf.iv c0_i32_0 c1_i32 k0_t1
  let c10_i32 : BitVec 32 := 10#32
  let v405 : BitVec 32 := Scalar.muli arg11 c10_i32
  let v415 : BitVec 32 := Scalar.addi v405 c1_i32_253
  let v419 : Index := Scalar.indexCast v415
  let c0_i32_255 : BitVec 32 := 0#32
  let c0_i32_256 : BitVec 32 := 0#32
  ![0, v419.toNat, 0, 0]
def k0_off3 (k0_t1 : Fin k0_t1_loop.trips) : Fin 3 → Nat :=
  let c0_i32_0 : BitVec 32 := 0#32
  let c1_i32 : BitVec 32 := 1#32
  let arg11 : BitVec 32 := Scf.iv c0_i32_0 c1_i32 k0_t1
  let v506 : Index := Scalar.indexCast arg11
  let c0_299 : Index := 0#32
  let c0_300 : Index := 0#32
  ![v506.toNat, 0, 0]
@[reducible] def k0_t2_loop : Scf.Loop 32 :=
  let c1_i32_56 : BitVec 32 := 1#32
  let c255_i32 : BitVec 32 := 255#32
  let v79 : BitVec 32 := Scalar.addi c1_i32_56 c255_i32
  let c1_i32_57 : BitVec 32 := 1#32
  ⟨c1_i32_56, v79, c1_i32_57⟩
@[reducible] def k0_t3_loop : Scf.Loop 32 :=
  let c0_i32_68 : BitVec 32 := 0#32
  let c77_i32 : BitVec 32 := 77#32
  let v101 : BitVec 32 := Scalar.addi c0_i32_68 c77_i32
  let c1_i32_69 : BitVec 32 := 1#32
  ⟨c0_i32_68, v101, c1_i32_69⟩
def k0_off4 (k0_t3 : Fin k0_t3_loop.trips) : Fin 4 → Nat :=
  let c0_i32_67 : BitVec 32 := 0#32
  let c0_i32_68 : BitVec 32 := 0#32
  let c1_i32_69 : BitVec 32 := 1#32
  let arg11 : BitVec 32 := Scf.iv c0_i32_68 c1_i32_69 k0_t3
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k0_off5 (k0_t3 : Fin k0_t3_loop.trips) : Fin 4 → Nat :=
  let c0_255 : Index := 0#32
  let c0_i32_68 : BitVec 32 := 0#32
  let c1_i32_69 : BitVec 32 := 1#32
  let arg11 : BitVec 32 := Scf.iv c0_i32_68 c1_i32_69 k0_t3
  let v420 : Index := Scalar.indexCast arg11
  let c0_256 : Index := 0#32
  let c0_257 : Index := 0#32
  ![0, v420.toNat, 0, 0]
def k0_off6 (k0_t3 : Fin k0_t3_loop.trips) : Fin 3 → Nat :=
  let c0_i32_68 : BitVec 32 := 0#32
  let c1_i32_69 : BitVec 32 := 1#32
  let arg11 : BitVec 32 := Scf.iv c0_i32_68 c1_i32_69 k0_t3
  let v426 : Index := Scalar.indexCast arg11
  let c0_258 : Index := 0#32
  let c0_259 : Index := 0#32
  ![v426.toNat, 0, 0]
def k0_off7 (k0_t3 : Fin k0_t3_loop.trips) : Fin 3 → Nat :=
  let c0_i32_68 : BitVec 32 := 0#32
  let c1_i32_69 : BitVec 32 := 1#32
  let arg11 : BitVec 32 := Scf.iv c0_i32_68 c1_i32_69 k0_t3
  let v430 : Index := Scalar.indexCast arg11
  let c0_260 : Index := 0#32
  let c0_261 : Index := 0#32
  ![v430.toNat, 0, 0]
@[reducible] def k0_t4_loop : Scf.Loop 32 :=
  let c0_i32_80 : BitVec 32 := 0#32
  let c76_i32_81 : BitVec 32 := 76#32
  let v114 : BitVec 32 := Scalar.addi c0_i32_80 c76_i32_81
  let c1_i32_82 : BitVec 32 := 1#32
  ⟨c0_i32_80, v114, c1_i32_82⟩
def k0_off8 (k0_t4 : Fin k0_t4_loop.trips) : Fin 3 → Nat :=
  let c0_i32_80 : BitVec 32 := 0#32
  let c1_i32_82 : BitVec 32 := 1#32
  let arg11 : BitVec 32 := Scf.iv c0_i32_80 c1_i32_82 k0_t4
  let v405 : Index := Scalar.indexCast arg11
  let c0_248 : Index := 0#32
  let c0_249 : Index := 0#32
  ![v405.toNat, 0, 0]
def k0_off9 (k0_t4 : Fin k0_t4_loop.trips) (c0_i32_250 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k0_t4
  let c10_i32 : BitVec 32 := 10#32
  let v408 : BitVec 32 := Scalar.muli arg11 c10_i32
  let v409 : BitVec 32 := Scalar.addi v408 c0_i32_250
  let v413 : Index := Scalar.indexCast v409
  let c0_i32_252 : BitVec 32 := 0#32
  let c0_i32_253 : BitVec 32 := 0#32
  ![0, v413.toNat, 0, 0]
def k0_off10 (k0_t4 : Fin k0_t4_loop.trips) (c0_i32_265 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k0_t4
  let c10_i32 : BitVec 32 := 10#32
  let v408 : BitVec 32 := Scalar.muli arg11 c10_i32
  let v444 : BitVec 32 := Scalar.addi v408 c0_i32_265
  let c1_i32_266 : BitVec 32 := 1#32
  let v445 : BitVec 32 := Scalar.addi v444 c1_i32_266
  let v449 : Index := Scalar.indexCast v445
  let c0_i32_268 : BitVec 32 := 0#32
  let c0_i32_269 : BitVec 32 := 0#32
  ![0, v449.toNat, 0, 0]
def k0_off11 (k0_t4 : Fin k0_t4_loop.trips) (c0_i32_283 : BitVec 32) : Fin 4 → Nat :=
  let c0_284 : Index := 0#32
  let c0_i32_80 : BitVec 32 := 0#32
  let c1_i32_82 : BitVec 32 := 1#32
  let arg11 : BitVec 32 := Scf.iv c0_i32_80 c1_i32_82 k0_t4
  let c5_i32 : BitVec 32 := 5#32
  let v485 : BitVec 32 := Scalar.muli arg11 c5_i32
  let v486 : BitVec 32 := Scalar.addi v485 c0_i32_283
  let v487 : Index := Scalar.indexCast v486
  let c0_285 : Index := 0#32
  let c0_286 : Index := 0#32
  ![0, v487.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x77x32x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x32x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

@[reducible] def k1_t1_loop : Scf.Loop 32 :=
  let c0_i32_0 : BitVec 32 := 0#32
  let c76_i32 : BitVec 32 := 76#32
  let v1 : BitVec 32 := Scalar.addi c0_i32_0 c76_i32
  let c1_i32 : BitVec 32 := 1#32
  ⟨c0_i32_0, v1, c1_i32⟩
def k1_off1 (k1_t1 : Fin k1_t1_loop.trips) : Fin 4 → Nat :=
  let c0_i32 : BitVec 32 := 0#32
  let c0_i32_0 : BitVec 32 := 0#32
  let c1_i32 : BitVec 32 := 1#32
  let arg11 : BitVec 32 := Scf.iv c0_i32_0 c1_i32 k1_t1
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k1_off2 (k1_t1 : Fin k1_t1_loop.trips) (c1_i32_253 : BitVec 32) : Fin 4 → Nat :=
  let c0_i32 : BitVec 32 := 0#32
  let c0_i32_0 : BitVec 32 := 0#32
  let c1_i32 : BitVec 32 := 1#32
  let arg11 : BitVec 32 := Scf.iv c0_i32_0 c1_i32 k1_t1
  let c10_i32 : BitVec 32 := 10#32
  let v405 : BitVec 32 := Scalar.muli arg11 c10_i32
  let v415 : BitVec 32 := Scalar.addi v405 c1_i32_253
  let v419 : Index := Scalar.indexCast v415
  let c0_i32_255 : BitVec 32 := 0#32
  let c0_i32_256 : BitVec 32 := 0#32
  ![0, v419.toNat, 0, 0]
def k1_off3 (k1_t1 : Fin k1_t1_loop.trips) : Fin 3 → Nat :=
  let c0_i32_0 : BitVec 32 := 0#32
  let c1_i32 : BitVec 32 := 1#32
  let arg11 : BitVec 32 := Scf.iv c0_i32_0 c1_i32 k1_t1
  let v506 : Index := Scalar.indexCast arg11
  let c0_299 : Index := 0#32
  let c0_300 : Index := 0#32
  ![v506.toNat, 0, 0]
@[reducible] def k1_t2_loop : Scf.Loop 32 :=
  let c1_i32_56 : BitVec 32 := 1#32
  let c255_i32 : BitVec 32 := 255#32
  let v79 : BitVec 32 := Scalar.addi c1_i32_56 c255_i32
  let c1_i32_57 : BitVec 32 := 1#32
  ⟨c1_i32_56, v79, c1_i32_57⟩
@[reducible] def k1_t3_loop : Scf.Loop 32 :=
  let c0_i32_68 : BitVec 32 := 0#32
  let c77_i32 : BitVec 32 := 77#32
  let v101 : BitVec 32 := Scalar.addi c0_i32_68 c77_i32
  let c1_i32_69 : BitVec 32 := 1#32
  ⟨c0_i32_68, v101, c1_i32_69⟩
def k1_off4 (k1_t3 : Fin k1_t3_loop.trips) : Fin 4 → Nat :=
  let c0_i32_67 : BitVec 32 := 0#32
  let c0_i32_68 : BitVec 32 := 0#32
  let c1_i32_69 : BitVec 32 := 1#32
  let arg11 : BitVec 32 := Scf.iv c0_i32_68 c1_i32_69 k1_t3
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k1_off5 (k1_t3 : Fin k1_t3_loop.trips) : Fin 4 → Nat :=
  let c0_255 : Index := 0#32
  let c0_i32_68 : BitVec 32 := 0#32
  let c1_i32_69 : BitVec 32 := 1#32
  let arg11 : BitVec 32 := Scf.iv c0_i32_68 c1_i32_69 k1_t3
  let v420 : Index := Scalar.indexCast arg11
  let c0_256 : Index := 0#32
  let c0_257 : Index := 0#32
  ![0, v420.toNat, 0, 0]
def k1_off6 (k1_t3 : Fin k1_t3_loop.trips) : Fin 3 → Nat :=
  let c0_i32_68 : BitVec 32 := 0#32
  let c1_i32_69 : BitVec 32 := 1#32
  let arg11 : BitVec 32 := Scf.iv c0_i32_68 c1_i32_69 k1_t3
  let v426 : Index := Scalar.indexCast arg11
  let c0_258 : Index := 0#32
  let c0_259 : Index := 0#32
  ![v426.toNat, 0, 0]
def k1_off7 (k1_t3 : Fin k1_t3_loop.trips) : Fin 3 → Nat :=
  let c0_i32_68 : BitVec 32 := 0#32
  let c1_i32_69 : BitVec 32 := 1#32
  let arg11 : BitVec 32 := Scf.iv c0_i32_68 c1_i32_69 k1_t3
  let v430 : Index := Scalar.indexCast arg11
  let c0_260 : Index := 0#32
  let c0_261 : Index := 0#32
  ![v430.toNat, 0, 0]
@[reducible] def k1_t4_loop : Scf.Loop 32 :=
  let c0_i32_80 : BitVec 32 := 0#32
  let c76_i32_81 : BitVec 32 := 76#32
  let v114 : BitVec 32 := Scalar.addi c0_i32_80 c76_i32_81
  let c1_i32_82 : BitVec 32 := 1#32
  ⟨c0_i32_80, v114, c1_i32_82⟩
def k1_off8 (k1_t4 : Fin k1_t4_loop.trips) : Fin 3 → Nat :=
  let c0_i32_80 : BitVec 32 := 0#32
  let c1_i32_82 : BitVec 32 := 1#32
  let arg11 : BitVec 32 := Scf.iv c0_i32_80 c1_i32_82 k1_t4
  let v405 : Index := Scalar.indexCast arg11
  let c0_248 : Index := 0#32
  let c0_249 : Index := 0#32
  ![v405.toNat, 0, 0]
def k1_off9 (k1_t4 : Fin k1_t4_loop.trips) (c0_i32_250 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k1_t4
  let c10_i32 : BitVec 32 := 10#32
  let v408 : BitVec 32 := Scalar.muli arg11 c10_i32
  let v409 : BitVec 32 := Scalar.addi v408 c0_i32_250
  let v413 : Index := Scalar.indexCast v409
  let c0_i32_252 : BitVec 32 := 0#32
  let c0_i32_253 : BitVec 32 := 0#32
  ![0, v413.toNat, 0, 0]
def k1_off10 (k1_t4 : Fin k1_t4_loop.trips) (c0_i32_265 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k1_t4
  let c10_i32 : BitVec 32 := 10#32
  let v408 : BitVec 32 := Scalar.muli arg11 c10_i32
  let v444 : BitVec 32 := Scalar.addi v408 c0_i32_265
  let c1_i32_266 : BitVec 32 := 1#32
  let v445 : BitVec 32 := Scalar.addi v444 c1_i32_266
  let v449 : Index := Scalar.indexCast v445
  let c0_i32_268 : BitVec 32 := 0#32
  let c0_i32_269 : BitVec 32 := 0#32
  ![0, v449.toNat, 0, 0]
def k1_off11 (k1_t4 : Fin k1_t4_loop.trips) (c0_i32_283 : BitVec 32) : Fin 4 → Nat :=
  let c0_284 : Index := 0#32
  let c0_i32_80 : BitVec 32 := 0#32
  let c1_i32_82 : BitVec 32 := 1#32
  let arg11 : BitVec 32 := Scf.iv c0_i32_80 c1_i32_82 k1_t4
  let c5_i32 : BitVec 32 := 5#32
  let v485 : BitVec 32 := Scalar.muli arg11 c5_i32
  let v486 : BitVec 32 := Scalar.addi v485 c0_i32_283
  let v487 : Index := Scalar.indexCast v486
  let c0_285 : Index := 0#32
  let c0_286 : Index := 0#32
  ![0, v487.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x768x32x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x768x32x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x77x32x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x384x32x128 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
abbrev S2x768x64x128 : Shape := ⟨4, ![2, 768, 64, 128]⟩
abbrev S2x77x64x128 : Shape := ⟨4, ![2, 77, 64, 128]⟩
abbrev S2x64x128 : Shape := ⟨3, ![2, 64, 128]⟩
abbrev S2x384x64x128 : Shape := ⟨4, ![2, 384, 64, 128]⟩
abbrev S1x768x32x128 : Shape := ⟨4, ![1, 768, 32, 128]⟩
abbrev S1x77x32x128 : Shape := ⟨4, ![1, 77, 32, 128]⟩
abbrev S1x32x128 : Shape := ⟨3, ![1, 32, 128]⟩
abbrev S1x384x32x128 : Shape := ⟨4, ![1, 384, 32, 128]⟩
abbrev S77x16x128 : Shape := ⟨3, ![77, 16, 128]⟩
abbrev S77x16x2x128 : Shape := ⟨4, ![77, 16, 2, 128]⟩
abbrev S77x16x1x128 : Shape := ⟨4, ![77, 16, 1, 128]⟩
abbrev S77x32x128 : Shape := ⟨3, ![77, 32, 128]⟩
abbrev S32x128 : Shape := ⟨2, ![32, 128]⟩
abbrev S768x32x128 : Shape := ⟨3, ![768, 32, 128]⟩
abbrev S768x16x128 : Shape := ⟨3, ![768, 16, 128]⟩
abbrev S1x16x128 : Shape := ⟨3, ![1, 16, 128]⟩
abbrev S1x1x32x128 : Shape := ⟨4, ![1, 1, 32, 128]⟩
abbrev S1x1x16x128 : Shape := ⟨4, ![1, 1, 16, 128]⟩
abbrev S16x128 : Shape := ⟨2, ![16, 128]⟩
abbrev S1x16x2x128 : Shape := ⟨4, ![1, 16, 2, 128]⟩
abbrev S1x16x1x128 : Shape := ⟨4, ![1, 16, 1, 128]⟩

abbrev nBuf : Space → Nat
  | .hbm => 12
  | .vmem => 30
  | .smem => 0
  | _ => 0

abbrev bufTy : (tb : Table) → Fin (tcTables nBuf tb) → BufTy
  | .hbm, ⟨0, _⟩ => ⟨S2x768x64x128, .bf16⟩
  | .hbm, ⟨1, _⟩ => ⟨S2x768x64x128, .bf16⟩
  | .hbm, ⟨2, _⟩ => ⟨S2x768x64x128, .bf16⟩
  | .hbm, ⟨3, _⟩ => ⟨S2x77x64x128, .fp8e4m3⟩
  | .hbm, ⟨4, _⟩ => ⟨S2x64x128, .f32⟩
  | .hbm, ⟨5, _⟩ => ⟨S2x384x64x128, .i8⟩
  | .hbm, ⟨6, _⟩ => ⟨S2x64x128, .f32⟩
  | .hbm, ⟨7, _⟩ => ⟨S2x768x64x128, .bf16⟩
  | .hbm, ⟨8, _⟩ => ⟨S2x77x64x128, .fp8e4m3⟩
  | .hbm, ⟨9, _⟩ => ⟨S2x64x128, .f32⟩
  | .hbm, ⟨10, _⟩ => ⟨S2x384x64x128, .i8⟩
  | .hbm, ⟨11, _⟩ => ⟨S2x64x128, .f32⟩
  | .local _ .vmem, ⟨0, _⟩ => ⟨S1x768x32x128, .bf16⟩
  | .local _ .vmem, ⟨1, _⟩ => ⟨S1x768x32x128, .bf16⟩
  | .local _ .vmem, ⟨2, _⟩ => ⟨S1x768x32x128, .bf16⟩
  | .local _ .vmem, ⟨3, _⟩ => ⟨S1x768x32x128, .bf16⟩
  | .local _ .vmem, ⟨4, _⟩ => ⟨S1x77x32x128, .fp8e4m3⟩
  | .local _ .vmem, ⟨5, _⟩ => ⟨S1x77x32x128, .fp8e4m3⟩
  | .local _ .vmem, ⟨6, _⟩ => ⟨S1x32x128, .f32⟩
  | .local _ .vmem, ⟨7, _⟩ => ⟨S1x32x128, .f32⟩
  | .local _ .vmem, ⟨8, _⟩ => ⟨S1x384x32x128, .i8⟩
  | .local _ .vmem, ⟨9, _⟩ => ⟨S1x384x32x128, .i8⟩
  | .local _ .vmem, ⟨10, _⟩ => ⟨S1x32x128, .f32⟩
  | .local _ .vmem, ⟨11, _⟩ => ⟨S1x32x128, .f32⟩
  | .local _ .vmem, ⟨12, _⟩ => ⟨S77x16x2x128, .bf16⟩
  | .local _ .vmem, ⟨13, _⟩ => ⟨S77x16x2x128, .bf16⟩
  | .local _ .vmem, ⟨14, _⟩ => ⟨S77x32x128, .f32⟩
  | .local _ .vmem, ⟨15, _⟩ => ⟨S1x768x32x128, .bf16⟩
  | .local _ .vmem, ⟨16, _⟩ => ⟨S1x768x32x128, .bf16⟩
  | .local _ .vmem, ⟨17, _⟩ => ⟨S1x768x32x128, .bf16⟩
  | .local _ .vmem, ⟨18, _⟩ => ⟨S1x768x32x128, .bf16⟩
  | .local _ .vmem, ⟨19, _⟩ => ⟨S1x77x32x128, .fp8e4m3⟩
  | .local _ .vmem, ⟨20, _⟩ => ⟨S1x77x32x128, .fp8e4m3⟩
  | .local _ .vmem, ⟨21, _⟩ => ⟨S1x32x128, .f32⟩
  | .local _ .vmem, ⟨22, _⟩ => ⟨S1x32x128, .f32⟩
  | .local _ .vmem, ⟨23, _⟩ => ⟨S1x384x32x128, .i8⟩
  | .local _ .vmem, ⟨24, _⟩ => ⟨S1x384x32x128, .i8⟩
  | .local _ .vmem, ⟨25, _⟩ => ⟨S1x32x128, .f32⟩
  | .local _ .vmem, ⟨26, _⟩ => ⟨S1x32x128, .f32⟩
  | .local _ .vmem, ⟨27, _⟩ => ⟨S77x16x2x128, .bf16⟩
  | .local _ .vmem, ⟨28, _⟩ => ⟨S77x16x2x128, .bf16⟩
  | .local _ .vmem, ⟨29, _⟩ => ⟨S77x32x128, .f32⟩
  | _, _ => ⟨S2x768x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_0 : BitVec 32 := 0#32
  let c76_i32 : BitVec 32 := 76#32
  let v1 : BitVec 32 := Scalar.addi c0_i32_0 c76_i32
  let c1_i32 : BitVec 32 := 1#32
  ⟨c0_i32_0, v1, c1_i32⟩
def k0_off1 (k0_t1 : Fin k0_t1_loop.trips) : Fin 4 → Nat :=
  let c0_i32 : BitVec 32 := 0#32
  let c0_i32_0 : BitVec 32 := 0#32
  let c1_i32 : BitVec 32 := 1#32
  let arg11 : BitVec 32 := Scf.iv c0_i32_0 c1_i32 k0_t1
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k0_off2 (k0_t1 : Fin k0_t1_loop.trips) (c1_i32_253 : BitVec 32) : Fin 4 → Nat :=
  let c0_i32 : BitVec 32 := 0#32
  let c0_i32_0 : BitVec 32 := 0#32
  let c1_i32 : BitVec 32 := 1#32
  let arg11 : BitVec 32 := Scf.iv c0_i32_0 c1_i32 k0_t1
  let c10_i32 : BitVec 32 := 10#32
  let v405 : BitVec 32 := Scalar.muli arg11 c10_i32
  let v415 : BitVec 32 := Scalar.addi v405 c1_i32_253
  let v419 : Index := Scalar.indexCast v415
  let c0_i32_255 : BitVec 32 := 0#32
  let c0_i32_256 : BitVec 32 := 0#32
  ![0, v419.toNat, 0, 0]
def k0_off3 (k0_t1 : Fin k0_t1_loop.trips) : Fin 4 → Nat :=
  let c0_i32_0 : BitVec 32 := 0#32
  let c1_i32 : BitVec 32 := 1#32
  let arg11 : BitVec 32 := Scf.iv c0_i32_0 c1_i32 k0_t1
  let v506 : Index := Scalar.indexCast arg11
  let c0_299 : Index := 0#32
  let c0_300 : Index := 0#32
  ![v506.toNat, 0, 0, 0]
@[reducible] def k0_t2_loop : Scf.Loop 32 :=
  let c1_i32_56 : BitVec 32 := 1#32
  let c255_i32 : BitVec 32 := 255#32
  let v79 : BitVec 32 := Scalar.addi c1_i32_56 c255_i32
  let c1_i32_57 : BitVec 32 := 1#32
  ⟨c1_i32_56, v79, c1_i32_57⟩
@[reducible] def k0_t3_loop : Scf.Loop 32 :=
  let c0_i32_68 : BitVec 32 := 0#32
  let c77_i32 : BitVec 32 := 77#32
  let v101 : BitVec 32 := Scalar.addi c0_i32_68 c77_i32
  let c1_i32_69 : BitVec 32 := 1#32
  ⟨c0_i32_68, v101, c1_i32_69⟩
def k0_off4 (k0_t3 : Fin k0_t3_loop.trips) : Fin 4 → Nat :=
  let c0_i32_67 : BitVec 32 := 0#32
  let c0_i32_68 : BitVec 32 := 0#32
  let c1_i32_69 : BitVec 32 := 1#32
  let arg11 : BitVec 32 := Scf.iv c0_i32_68 c1_i32_69 k0_t3
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k0_off5 (k0_t3 : Fin k0_t3_loop.trips) : Fin 4 → Nat :=
  let c0_255 : Index := 0#32
  let c0_i32_68 : BitVec 32 := 0#32
  let c1_i32_69 : BitVec 32 := 1#32
  let arg11 : BitVec 32 := Scf.iv c0_i32_68 c1_i32_69 k0_t3
  let v420 : Index := Scalar.indexCast arg11
  let c0_256 : Index := 0#32
  let c0_257 : Index := 0#32
  ![0, v420.toNat, 0, 0]
def k0_off6 (k0_t3 : Fin k0_t3_loop.trips) : Fin 3 → Nat :=
  let c0_i32_68 : BitVec 32 := 0#32
  let c1_i32_69 : BitVec 32 := 1#32
  let arg11 : BitVec 32 := Scf.iv c0_i32_68 c1_i32_69 k0_t3
  let v426 : Index := Scalar.indexCast arg11
  let c0_258 : Index := 0#32
  let c0_259 : Index := 0#32
  ![v426.toNat, 0, 0]
def k0_off7 (k0_t3 : Fin k0_t3_loop.trips) : Fin 4 → Nat :=
  let c0_i32_68 : BitVec 32 := 0#32
  let c1_i32_69 : BitVec 32 := 1#32
  let arg11 : BitVec 32 := Scf.iv c0_i32_68 c1_i32_69 k0_t3
  let v430 : Index := Scalar.indexCast arg11
  let c0_260 : Index := 0#32
  let c0_261 : Index := 0#32
  ![v430.toNat, 0, 0, 0]
@[reducible] def k0_t4_loop : Scf.Loop 32 :=
  let c0_i32_80 : BitVec 32 := 0#32
  let c76_i32_81 : BitVec 32 := 76#32
  let v114 : BitVec 32 := Scalar.addi c0_i32_80 c76_i32_81
  let c1_i32_82 : BitVec 32 := 1#32
  ⟨c0_i32_80, v114, c1_i32_82⟩
def k0_off8 (k0_t4 : Fin k0_t4_loop.trips) : Fin 3 → Nat :=
  let c0_i32_80 : BitVec 32 := 0#32
  let c1_i32_82 : BitVec 32 := 1#32
  let arg11 : BitVec 32 := Scf.iv c0_i32_80 c1_i32_82 k0_t4
  let v405 : Index := Scalar.indexCast arg11
  let c0_248 : Index := 0#32
  let c0_249 : Index := 0#32
  ![v405.toNat, 0, 0]
def k0_off9 (k0_t4 : Fin k0_t4_loop.trips) (c0_i32_250 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k0_t4
  let c10_i32 : BitVec 32 := 10#32
  let v408 : BitVec 32 := Scalar.muli arg11 c10_i32
  let v409 : BitVec 32 := Scalar.addi v408 c0_i32_250
  let v413 : Index := Scalar.indexCast v409
  let c0_i32_252 : BitVec 32 := 0#32
  let c0_i32_253 : BitVec 32 := 0#32
  ![0, v413.toNat, 0, 0]
def k0_off10 (k0_t4 : Fin k0_t4_loop.trips) (c0_i32_265 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k0_t4
  let c10_i32 : BitVec 32 := 10#32
  let v408 : BitVec 32 := Scalar.muli arg11 c10_i32
  let v444 : BitVec 32 := Scalar.addi v408 c0_i32_265
  let c1_i32_266 : BitVec 32 := 1#32
  let v445 : BitVec 32 := Scalar.addi v444 c1_i32_266
  let v449 : Index := Scalar.indexCast v445
  let c0_i32_268 : BitVec 32 := 0#32
  let c0_i32_269 : BitVec 32 := 0#32
  ![0, v449.toNat, 0, 0]
def k0_off11 (k0_t4 : Fin k0_t4_loop.trips) (c0_i32_283 : BitVec 32) : Fin 4 → Nat :=
  let c0_284 : Index := 0#32
  let c0_i32_80 : BitVec 32 := 0#32
  let c1_i32_82 : BitVec 32 := 1#32
  let arg11 : BitVec 32 := Scf.iv c0_i32_80 c1_i32_82 k0_t4
  let c5_i32 : BitVec 32 := 5#32
  let v485 : BitVec 32 := Scalar.muli arg11 c5_i32
  let v486 : BitVec 32 := Scalar.addi v485 c0_i32_283
  let v487 : Index := Scalar.indexCast v486
  let c0_285 : Index := 0#32
  let c0_286 : Index := 0#32
  ![0, v487.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x77x32x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x32x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

@[reducible] def k1_t1_loop : Scf.Loop 32 :=
  let c0_i32_0 : BitVec 32 := 0#32
  let c76_i32 : BitVec 32 := 76#32
  let v1 : BitVec 32 := Scalar.addi c0_i32_0 c76_i32
  let c1_i32 : BitVec 32 := 1#32
  ⟨c0_i32_0, v1, c1_i32⟩
def k1_off1 (k1_t1 : Fin k1_t1_loop.trips) : Fin 4 → Nat :=
  let c0_i32 : BitVec 32 := 0#32
  let c0_i32_0 : BitVec 32 := 0#32
  let c1_i32 : BitVec 32 := 1#32
  let arg11 : BitVec 32 := Scf.iv c0_i32_0 c1_i32 k1_t1
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k1_off2 (k1_t1 : Fin k1_t1_loop.trips) (c1_i32_253 : BitVec 32) : Fin 4 → Nat :=
  let c0_i32 : BitVec 32 := 0#32
  let c0_i32_0 : BitVec 32 := 0#32
  let c1_i32 : BitVec 32 := 1#32
  let arg11 : BitVec 32 := Scf.iv c0_i32_0 c1_i32 k1_t1
  let c10_i32 : BitVec 32 := 10#32
  let v405 : BitVec 32 := Scalar.muli arg11 c10_i32
  let v415 : BitVec 32 := Scalar.addi v405 c1_i32_253
  let v419 : Index := Scalar.indexCast v415
  let c0_i32_255 : BitVec 32 := 0#32
  let c0_i32_256 : BitVec 32 := 0#32
  ![0, v419.toNat, 0, 0]
def k1_off3 (k1_t1 : Fin k1_t1_loop.trips) : Fin 4 → Nat :=
  let c0_i32_0 : BitVec 32 := 0#32
  let c1_i32 : BitVec 32 := 1#32
  let arg11 : BitVec 32 := Scf.iv c0_i32_0 c1_i32 k1_t1
  let v506 : Index := Scalar.indexCast arg11
  let c0_299 : Index := 0#32
  let c0_300 : Index := 0#32
  ![v506.toNat, 0, 0, 0]
@[reducible] def k1_t2_loop : Scf.Loop 32 :=
  let c1_i32_56 : BitVec 32 := 1#32
  let c255_i32 : BitVec 32 := 255#32
  let v79 : BitVec 32 := Scalar.addi c1_i32_56 c255_i32
  let c1_i32_57 : BitVec 32 := 1#32
  ⟨c1_i32_56, v79, c1_i32_57⟩
@[reducible] def k1_t3_loop : Scf.Loop 32 :=
  let c0_i32_68 : BitVec 32 := 0#32
  let c77_i32 : BitVec 32 := 77#32
  let v101 : BitVec 32 := Scalar.addi c0_i32_68 c77_i32
  let c1_i32_69 : BitVec 32 := 1#32
  ⟨c0_i32_68, v101, c1_i32_69⟩
def k1_off4 (k1_t3 : Fin k1_t3_loop.trips) : Fin 4 → Nat :=
  let c0_i32_67 : BitVec 32 := 0#32
  let c0_i32_68 : BitVec 32 := 0#32
  let c1_i32_69 : BitVec 32 := 1#32
  let arg11 : BitVec 32 := Scf.iv c0_i32_68 c1_i32_69 k1_t3
  let c10_i32 : BitVec 32 := 10#32
  let v405 : BitVec 32 := Scalar.muli arg11 c10_i32
  let v409 : Index := Scalar.indexCast v405
  let c0_i32_249 : BitVec 32 := 0#32
  let c0_i32_250 : BitVec 32 := 0#32
  ![0, v409.toNat, 0, 0]
def k1_off5 (k1_t3 : Fin k1_t3_loop.trips) : Fin 4 → Nat :=
  let c0_255 : Index := 0#32
  let c0_i32_68 : BitVec 32 := 0#32
  let c1_i32_69 : BitVec 32 := 1#32
  let arg11 : BitVec 32 := Scf.iv c0_i32_68 c1_i32_69 k1_t3
  let v420 : Index := Scalar.indexCast arg11
  let c0_256 : Index := 0#32
  let c0_257 : Index := 0#32
  ![0, v420.toNat, 0, 0]
def k1_off6 (k1_t3 : Fin k1_t3_loop.trips) : Fin 3 → Nat :=
  let c0_i32_68 : BitVec 32 := 0#32
  let c1_i32_69 : BitVec 32 := 1#32
  let arg11 : BitVec 32 := Scf.iv c0_i32_68 c1_i32_69 k1_t3
  let v426 : Index := Scalar.indexCast arg11
  let c0_258 : Index := 0#32
  let c0_259 : Index := 0#32
  ![v426.toNat, 0, 0]
def k1_off7 (k1_t3 : Fin k1_t3_loop.trips) : Fin 4 → Nat :=
  let c0_i32_68 : BitVec 32 := 0#32
  let c1_i32_69 : BitVec 32 := 1#32
  let arg11 : BitVec 32 := Scf.iv c0_i32_68 c1_i32_69 k1_t3
  let v430 : Index := Scalar.indexCast arg11
  let c0_260 : Index := 0#32
  let c0_261 : Index := 0#32
  ![v430.toNat, 0, 0, 0]
@[reducible] def k1_t4_loop : Scf.Loop 32 :=
  let c0_i32_80 : BitVec 32 := 0#32
  let c76_i32_81 : BitVec 32 := 76#32
  let v114 : BitVec 32 := Scalar.addi c0_i32_80 c76_i32_81
  let c1_i32_82 : BitVec 32 := 1#32
  ⟨c0_i32_80, v114, c1_i32_82⟩
def k1_off8 (k1_t4 : Fin k1_t4_loop.trips) : Fin 3 → Nat :=
  let c0_i32_80 : BitVec 32 := 0#32
  let c1_i32_82 : BitVec 32 := 1#32
  let arg11 : BitVec 32 := Scf.iv c0_i32_80 c1_i32_82 k1_t4
  let v405 : Index := Scalar.indexCast arg11
  let c0_248 : Index := 0#32
  let c0_249 : Index := 0#32
  ![v405.toNat, 0, 0]
def k1_off9 (k1_t4 : Fin k1_t4_loop.trips) (c0_i32_250 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k1_t4
  let c10_i32 : BitVec 32 := 10#32
  let v408 : BitVec 32 := Scalar.muli arg11 c10_i32
  let v409 : BitVec 32 := Scalar.addi v408 c0_i32_250
  let v413 : Index := Scalar.indexCast v409
  let c0_i32_252 : BitVec 32 := 0#32
  let c0_i32_253 : BitVec 32 := 0#32
  ![0, v413.toNat, 0, 0]
def k1_off10 (k1_t4 : Fin k1_t4_loop.trips) (c0_i32_265 : BitVec 32) : Fin 4 → Nat :=
  let c0_i32_78 : BitVec 32 := 0#32
  let c0_i32_80 : BitVec 32 := 0#32
  let c1_i32_82 : BitVec 32 := 1#32
  let arg11 : BitVec 32 := Scf.iv c0_i32_80 c1_i32_82 k1_t4
  let c10_i32 : BitVec 32 := 10#32
  let v408 : BitVec 32 := Scalar.muli arg11 c10_i32
  let v444 : BitVec 32 := Scalar.addi v408 c0_i32_265
  let c1_i32_266 : BitVec 32 := 1#32
  let v445 : BitVec 32 := Scalar.addi v444 c1_i32_266
  let v449 : Index := Scalar.indexCast v445
  let c0_i32_268 : BitVec 32 := 0#32
  let c0_i32_269 : BitVec 32 := 0#32
  ![0, v449.toNat, 0, 0]
def k1_off11 (k1_t4 : Fin k1_t4_loop.trips) (c0_i32_283 : BitVec 32) : Fin 4 → Nat :=
  let c0_284 : Index := 0#32
  let c0_i32_80 : BitVec 32 := 0#32
  let c1_i32_82 : BitVec 32 := 1#32
  let arg11 : BitVec 32 := Scf.iv c0_i32_80 c1_i32_82 k1_t4
  let c5_i32 : BitVec 32 := 5#32
  let v485 : BitVec 32 := Scalar.muli arg11 c5_i32
  let v486 : BitVec 32 := Scalar.addi v485 c0_i32_283
  let v487 : Index := Scalar.indexCast v486
  let c0_285 : Index := 0#32
  let c0_286 : Index := 0#32
  ![0, v487.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x768x32x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x768x32x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x77x32x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x384x32x128 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S2x768x64x128 : Shape := ⟨4, ![2, 768, 64, 128]⟩
abbrev S2x77x64x128 : Shape := ⟨4, ![2, 77, 64, 128]⟩
abbrev S2x64x128 : Shape := ⟨3, ![2, 64, 128]⟩
abbrev S2x384x64x128 : Shape := ⟨4, ![2, 384, 64, 128]⟩
abbrev S2x1x64x128 : Shape := ⟨4, ![2, 1, 64, 128]⟩
abbrev S2x77x1x64x128 : Shape := ⟨5, ![2, 77, 1, 64, 128]⟩
abbrev S2x77x10x64x128 : Shape := ⟨5, ![2, 77, 10, 64, 128]⟩
abbrev S2x770x64x128 : Shape := ⟨4, ![2, 770, 64, 128]⟩
abbrev S2x384x2x64x128 : Shape := ⟨5, ![2, 384, 2, 64, 128]⟩
abbrev S2x384x1x64x128 : Shape := ⟨5, ![2, 384, 1, 64, 128]⟩

abbrev nBuf : Space → Nat
  | .hbm => 14
  | .vmem => 14
  | .smem => 0
  | _ => 0

abbrev bufTy : (tb : Table) → Fin (tcTables nBuf tb) → BufTy
  | .hbm, ⟨0, _⟩ => ⟨S2x768x64x128, .bf16⟩
  | .hbm, ⟨1, _⟩ => ⟨S2x768x64x128, .bf16⟩
  | .hbm, ⟨2, _⟩ => ⟨S2x77x64x128, .bf16⟩
  | .hbm, ⟨3, _⟩ => ⟨S2x77x64x128, .bf16⟩
  | .hbm, ⟨4, _⟩ => ⟨S2x768x64x128, .bf16⟩
  | .hbm, ⟨5, _⟩ => ⟨S2x768x64x128, .bf16⟩
  | .hbm, ⟨6, _⟩ => ⟨S2x77x64x128, .fp8e4m3⟩
  | .hbm, ⟨7, _⟩ => ⟨S2x64x128, .f32⟩
  | .hbm, ⟨8, _⟩ => ⟨S2x384x64x128, .i8⟩
  | .hbm, ⟨9, _⟩ => ⟨S2x64x128, .f32⟩
  | .hbm, ⟨10, _⟩ => ⟨S2x77x64x128, .fp8e4m3⟩
  | .hbm, ⟨11, _⟩ => ⟨S2x64x128, .f32⟩
  | .hbm, ⟨12, _⟩ => ⟨S2x384x64x128, .i8⟩
  | .hbm, ⟨13, _⟩ => ⟨S2x64x128, .f32⟩
  | .local _ .vmem, ⟨0, _⟩ => ⟨S2x768x64x128, .bf16⟩
  | .local _ .vmem, ⟨1, _⟩ => ⟨S2x77x64x128, .bf16⟩
  | .local _ .vmem, ⟨2, _⟩ => ⟨S2x768x64x128, .bf16⟩
  | .local _ .vmem, ⟨3, _⟩ => ⟨S2x77x64x128, .bf16⟩
  | .local _ .vmem, ⟨4, _⟩ => ⟨S2x768x64x128, .bf16⟩
  | .local _ .vmem, ⟨5, _⟩ => ⟨S2x768x64x128, .bf16⟩
  | .local _ .vmem, ⟨6, _⟩ => ⟨S2x77x64x128, .fp8e4m3⟩
  | .local _ .vmem, ⟨7, _⟩ => ⟨S2x64x128, .f32⟩
  | .local _ .vmem, ⟨8, _⟩ => ⟨S2x384x64x128, .i8⟩
  | .local _ .vmem, ⟨9, _⟩ => ⟨S2x64x128, .f32⟩
  | .local _ .vmem, ⟨10, _⟩ => ⟨S2x77x64x128, .fp8e4m3⟩
  | .local _ .vmem, ⟨11, _⟩ => ⟨S2x64x128, .f32⟩
  | .local _ .vmem, ⟨12, _⟩ => ⟨S2x384x64x128, .i8⟩
  | .local _ .vmem, ⟨13, _⟩ => ⟨S2x64x128, .f32⟩
  | _, _ => ⟨S2x768x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev main_v2_7 : Ref sig .tc := ⟨.hbm, 11, rfl⟩
abbrev main_v2_8 : Ref sig .tc := ⟨.hbm, 12, rfl⟩
abbrev main_v2_9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x768x64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x77x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x77x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x77x64x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x384x64x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x77x64x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x384x64x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.TwoCalls.lean ====
/-
  A program of two kernel calls, each on arrays of its own: a run makes the first call and then the second, and at its end
  every array of either call holds what that call's proof data say of it.
-/
module
public import Idealize.ShloMosaic.Lib.Pipeline.Frame
public import Idealize.ShloMosaic.Lib.Pipeline.Regions
public import Idealize.ShloMosaic.Lib.Pipeline.RegionArrays
@[expose] public section
noncomputable section
namespace Cert.TwoCalls
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels}
local notation "𝕄" => MT nD τ sig Unit Val ℕ (UR sig nD τ) ℕ

variable (pcs : Fin 2 → PCfg sig Λ₀ Val) (a : (p : Fin 2) → (pcs p).Adm)
  (pdats : (p : Fin 2) → (c : Dev nD) → Dat τ Val Unit ℕ (UR sig nD τ) ℕ (pin pcs a p) c)
  (defs₀ : Defs nD τ sig Val Λ₀) (𝒱₀ : Variants)
  (fg : (p : Fin 2) → Fin (pin pcs a p).W → Bool)

/-- The proof data with the windows that `fg` marks forgotten. -/
abbrev rds : (p : Fin 2) → (c : Dev nD) → RDat τ Val Unit ℕ (UR sig nD τ) ℕ (pin pcs a p) c := fun p c => (pdats p c).toRForget (fg p)

/-- No core owes another anything: no level is assigned. -/
abbrev L : GSem nD τ sig → Finset Unit := fun _ => ∅
abbrev lv : GSem nD τ sig → Unit → ℕ := fun _ _ => 0

/-- One call, entered from its arrays as the proof data find them and left with them as the proof data say; `E` is whatever else is held. -/
def call [∀ e, Nonempty (Val e)] (p : Fin 2) (kit : PLaunchFacts (nD := nD) (τ := τ) pcs p) (hK : (pcs p).pre.K = 0)
    (hbody : ∀ c, BodyObligationLoose (pdats p c) defs₀ 𝒱₀ () Set.univ (fg p))
    (howed : ∀ c t, (pdats p c).owed t = 0) (hrec : ∀ c, (pdats p c).recorded 0 = Set.univ)
    (hΦ : ∀ c t, (pdats p c).Φ t = ΦA (pin pcs a p).spec c) (E : Dev nD → sProp 𝕄) :
    RDat.RegionSeg pcs a (rds pcs a pdats fg) () defs₀ 𝒱₀ L lv p where
  win := kit.to₀.win
  block_pos := kit.to₀.block_pos
  stage_whole := kit.to₀.stage_whole
  K := PEmpty
  osem k := k.elim
  ho := OwnSemFacts.none _
  hbody c := (hbody c).toRForget
  hwaits := RDat.hwaits_of_owed_zero pcs a (rds pcs a pdats fg) () L lv p howed
  pre c := iprop((pdats p c).arrays (pdats p c).A ∗ (∃ r, prngReg c r) ∗ E c ∗ ∃ W, owes (c : Thread nD τ) (0 : CellTallies nD τ sig Unit) W)
  post c := iprop((rds pcs a pdats fg p c).arraysAt (pin pcs a p).N ∗ (∃ r, prngReg c r) ∗ E c ∗ ∃ W, owes (c : Thread nD τ) (0 : CellTallies nD τ sig Unit) W)
  X c := iprop(∃ r, prngReg c r)
  Y c := iprop(∃ r, prngReg c r)
  Z := E
  hentry c := by
    show _ ⊢ |={Set.univ}=> iprop((pdats p c).arrays (pdats p c).A ∗ prefHeld (pcs p).pre c (fun _ => fullShare) (a p).1
        ∗ (pdats p c).owesAt () 0 ∗ _ ∗ _)
    rw [ownSems0_none, prefHeld_of_none _ hK]
    iintro ⟨⟨Ha, Hp, HE, HO⟩, -, -⟩
    imodintro
    isplitl [Ha]; · iexact Ha
    isplitr; · iempintro
    isplitl [HO]
    · unfold Dat.owesAt owesWithin Dat.bound
      rw [howed c 0, hrec c]
      icases HO with ⟨%W, HO⟩; iexists W; isplitr; · ipureintro; exact fun _ _ => Or.inl trivial
      iexact HO
    isplitl [Hp]; · iexact Hp
    iexact HE
  hin c := by
    show _ ⊢ (pdats p c).Φ 0
    rw [hΦ c 0]
    unfold ΦA
    iintro ⟨Hp, -, Hr⟩
    isplitl [Hr]; · iexact Hr
    iexact Hp
  hout c := by
    show (pdats p c).Φ (Fin.last (pin pcs a p).N) ⊢ _
    rw [hΦ c (Fin.last (pin pcs a p).N), ownSems0_none]
    unfold ΦA
    iintro ⟨Hr, Hp⟩
    isplitl [Hp]; · iexact Hp
    isplitr; · iempintro
    iexact Hr
  hexit c := by
    show iprop((rds pcs a pdats fg p c).arraysAt (pin pcs a p).N ∗ (pdats p c).owesAt () (Fin.last (pin pcs a p).N) ∗ _ ∗ _) ⊢ _
    iintro ⟨Ha, HO, Hp, HE⟩
    imodintro
    isplitl [Ha]; · iexact Ha
    isplitl [Hp]; · iexact Hp
    isplitl [HE]; · iexact HE
    unfold Dat.owesAt owesWithin
    rw [howed c (Fin.last _)]
    icases HO with ⟨%W, -, HO⟩; iexists W; iexact HO

/-- The unscoped buffers as launched hold both calls' arrays. -/
theorem both_arrays (kit : ∀ p, PLaunchFacts (nD := nD) (τ := τ) pcs p)
    (hshare : ∀ p c w, (pdats p c).share w = fullShare) (m : (ℓ : Loc nD τ sig) → Buf Val ℓ)
    (hA : ∀ p c w, (pdats p c).A w = m ((c.tc : Thread nD τ).loc (arrRef (pin pcs a p).spec w)))
    (hdisj : Disjoint (arrRefs (τ := τ) (pcs 0).spec) (arrRefs (pcs 1).spec)) (c : Dev nD) :
    (unscopedBufs c (fun b => m ((c.tc : Thread nD τ).loc b)) : sProp 𝕄)
      ⊢ iprop((pdats 0 c).arrays (pdats 0 c).A ∗ (pdats 1 c).arrays (pdats 1 c).A) := by
  have h0 := arrRefs_sub_ucRefs (τ := τ) (pcs 0).spec (kit 0).win.arr_unscoped
  have h1 := arrRefs_sub_ucRefs (τ := τ) (pcs 1).spec (kit 1).win.arr_unscoped
  have h1' : arrRefs (τ := τ) (pcs 1).spec ⊆ ucRefs τ sig \ arrRefs (τ := τ) (pcs 0).spec := fun b hb =>
    Finset.mem_sdiff.mpr ⟨h1 hb, fun hb0 => Finset.disjoint_left.mp hdisj hb0 hb⟩
  rw [show (unscopedBufs c (fun b => m ((c.tc : Thread nD τ).loc b)) : sProp 𝕄) = StableHlo.held (c.tc : Thread nD τ) (ucRefs τ sig) (fun b => m (c, b)) from
      unscopedBufs_held (Ix := Unit) (Name := ℕ) (U := UR sig nD τ) (Lvl := ℕ) c (fun b => m (c, b)),
    StableHlo.held_sub_split (c.tc : Thread nD τ) h0, StableHlo.held_sub_split (c.tc : Thread nD τ) h1',
    arrays_held pcs a pdats 0 (kit 0) c (hshare 0 c) (pdats 0 c).A (fun b => m (c, b)) (hA 0 c),
    arrays_held pcs a pdats 1 (kit 1) c (hshare 1 c) (pdats 1 c).A (fun b => m (c, b)) (hA 1 c)]
  iintro ⟨H0, H1, -⟩
  isplitl [H0]; · iexact H0
  iexact H1

set_option backward.isDefEq.respectTransparency.types false in
/-- The run: every array of either call ends at contents its proof data allow, every semaphore counter at zero. -/
theorem run [∀ e, Nonempty (Val e)] (kit : ∀ p, PLaunchFacts (nD := nD) (τ := τ) pcs p) (hK : ∀ p, (pcs p).pre.K = 0)
    (hbody : ∀ p c, BodyObligationLoose (pdats p c) defs₀ 𝒱₀ () Set.univ (fg p))
    (howed : ∀ p c t, (pdats p c).owed t = 0) (hrec : ∀ p c, (pdats p c).recorded 0 = Set.univ)
    (hΦ : ∀ p c t, (pdats p c).Φ t = ΦA (pin pcs a p).spec c)
    (hshare : ∀ p c w, (pdats p c).share w = fullShare) (m : (ℓ : Loc nD τ sig) → Buf Val ℓ) (ρ : Dev nD → PrngReg)
    (hA : ∀ p c w, (pdats p c).A w = m ((c.tc : Thread nD τ).loc (arrRef (pin pcs a p).spec w)))
    (hdisj : Disjoint (arrRefs (τ := τ) (pcs 0).spec) (arrRefs (pcs 1).spec))
    (hsem : ∀ sm : SemLoc sig, sm.isScoped .tc = true)
    (main : Dev nD → Prog (TpuEff nD τ sig Val (Pipeline.Sig Λ₀ (Fin 2) fun p => (pcs p).Adm) .tc) PUnit)
    (hmain : ∀ c, main c = Pipeline.chain [Prog.lift (.customCall (Pipeline.entry 0) ()), Prog.lift (.customCall (Pipeline.entry 1) ())]) :
    θ_run (Pipeline.defs pcs defs₀) (onTc main) ⟨m, fun _ => 0, ρ⟩ (fun r =>
      (∀ c p w, (rds pcs a pdats fg p c).ArrAt w (pin pcs a p).N (r.2.mem (((pin pcs a p).spec w).arr.view.loc (c.tc : Thread nD τ))))
        ∧ r.2.sem = fun _ => 0) := by
  let E0 : Dev nD → sProp 𝕄 := fun c => (pdats 1 c).arrays (pdats 1 c).A
  let E1 : Dev nD → sProp 𝕄 := fun c => (rds pcs a pdats fg 0 c).arraysAt (pin pcs a 0).N
  let R0 := call pcs a pdats defs₀ 𝒱₀ fg 0 (kit 0) (hK 0) (hbody 0) (howed 0) (hrec 0) (hΦ 0) E0
  let R1 := call pcs a pdats defs₀ 𝒱₀ fg 1 (kit 1) (hK 1) (hbody 1) (howed 1) (hrec 1) (hΦ 1) E1
  refine RDat.θ_run_regions_kit_dev_sems pcs a (rds pcs a pdats fg) () ((kit 0).cellOf_inj a) emb₁ defs₀ 𝒱₀ L lv m ρ main
    (fun _ => [.region R0, .region R1])
    (fun c Q => by
      rw [hmain c]
      exact .rfl)
    (fun c => by simp only [RDat.Seg.pipes_region, RDat.Seg.pipes_nil]; decide) (O₀ := 0) (hL := fun _ _ => rfl)
    (G := fun _ => iprop(emp)) (u₀ := initOf (cells (pin pcs a) ((kit 0).cellOf_inj a)) (launchToks (pin pcs a) ((kit 0).cellOf_inj a)))
    (hu₀ := by
      iintro Hu; imodintro
      isplitl [Hu]; · iapply (show (ownU _ : sProp 𝕄) ⊢ BI.own (emb₁ (initOf (cells (pin pcs a) ((kit 0).cellOf_inj a)) (launchToks (pin pcs a) ((kit 0).cellOf_inj a)))) from .rfl); iexact Hu
      iapply (show (BI.emp : sProp 𝕄) ⊢ bigSep Finset.univ (fun _ : Dev nD => (BI.emp : sProp 𝕄)) from by rw [BI.bigSep_emp_const])
      iempintro)
    (T₀ := R0.pre)
    (Tₙ := fun c => iprop((rds pcs a pdats fg 0 c).arraysAt (pin pcs a 0).N ∗ (rds pcs a pdats fg 1 c).arraysAt (pin pcs a 1).N))
    (hch := fun c => ⟨.rfl, ?_, ?_⟩)
    (hinit := ?_)
    (QY := fun c s => ∀ p w, (rds pcs a pdats fg p c).ArrAt w (pin pcs a p).N (s.mem (((pin pcs a p).spec w).arr.view.loc (c.tc : Thread nD τ))))
    (hfin := fun c s' => ?_) (hQ := fun _ h hz => ⟨h, funext fun g => hz g (.inr (hsem g.2))⟩)
  · show iprop((rds pcs a pdats fg 0 c).arraysAt (pin pcs a 0).N ∗ (∃ r, prngReg c r) ∗ (pdats 1 c).arrays (pdats 1 c).A ∗ ∃ W, owes (c : Thread nD τ) (0 : CellTallies nD τ sig Unit) W)
      ⊢ iprop((pdats 1 c).arrays (pdats 1 c).A ∗ (∃ r, prngReg c r) ∗ (rds pcs a pdats fg 0 c).arraysAt (pin pcs a 0).N ∗ ∃ W, owes (c : Thread nD τ) (0 : CellTallies nD τ sig Unit) W)
    iintro ⟨H0, Hp, H1, HO⟩
    isplitl [H1]; · iexact H1
    isplitl [Hp]; · iexact Hp
    isplitl [H0]; · iexact H0
    iexact HO
  · show iprop((rds pcs a pdats fg 1 c).arraysAt (pin pcs a 1).N ∗ (∃ r, prngReg c r) ∗ (rds pcs a pdats fg 0 c).arraysAt (pin pcs a 0).N ∗ ∃ W, owes (c : Thread nD τ) (0 : CellTallies nD τ sig Unit) W)
      ⊢ iprop(((rds pcs a pdats fg 0 c).arraysAt (pin pcs a 0).N ∗ (rds pcs a pdats fg 1 c).arraysAt (pin pcs a 1).N) ∗ ∃ W, owes (c : Thread nD τ) (0 : CellTallies nD τ sig Unit) W)
    iintro ⟨H1, -, H0, HO⟩
    isplitl [H0 H1]
    · isplitl [H0]; · iexact H0
      iexact H1
    iexact HO
  · refine Pipeline.initEach L lv fun c => ?_
    show _ ⊢ |={Set.univ}=> iprop((pdats 0 c).arrays (pdats 0 c).A ∗ (∃ r, prngReg c r) ∗ (pdats 1 c).arrays (pdats 1 c).A ∗ ∃ W, owes (c : Thread nD τ) (0 : CellTallies nD τ sig Unit) W)
    iintro ⟨⟨Hh, -, HO, -, Hp, -⟩, -⟩
    ihave H := (both_arrays pcs a pdats kit hshare m hA hdisj c) $$ Hh
    icases H with ⟨H0, H1⟩
    imodintro
    isplitl [H0]; · iexact H0
    isplitl [Hp]; · iexists _; iexact Hp
    isplitl [H1]; · iexact H1
    iexists ∅; iexact HO
  · iintro ⟨⟨H0, H1⟩, HSI⟩
    ihave Hr := (RDat.arraysAt_read pcs a (rds pcs a pdats fg) 0 c (kit 0).arr_whole (pin pcs a 0).N s') $$ [H0 HSI]
    · isplitl [H0]; · iexact H0
      iexact HSI
    icases Hr with ⟨%h0, HSI⟩
    ihave Hr := (RDat.arraysAt_read pcs a (rds pcs a pdats fg) 1 c (kit 1).arr_whole (pin pcs a 1).N s') $$ [H1 HSI]
    · isplitl [H1]; · iexact H1
      iexact HSI
    icases Hr with ⟨%h1, HSI⟩
    imodintro
    isplitr
    · ipureintro
      intro p
      fin_cases p
      · exact h0
      · exact h1
    iexact HSI

end Cert.TwoCalls
end
-- ==== Proof.KernelFrame.lean ====
/-
  The kernel's frame: every run of it ends, faults nowhere, leaves its arguments as they were and every semaphore counter at zero.
  What the body leaves in the result windows is not described here.
-/
module
public import proofs.«01_k».proof.Proof.Gen.Kernel.Launch
public import proofs.«01_k».proof.Proof.Gen.Kernel.Points
public import proofs.«01_k».proof.Proof.Gen.Kernel.Regions
public import proofs.«01_k».proof.Proof.Gen.Kernel.Skeleton
public import Idealize.ShloMosaic.Lib.Pipeline.FrameBody
public import Idealize.ShloMosaic.Lib.Tactic
public import proofs.«01_k».proof.Proof.TwoCalls
public import proofs.«01_k».proof.Proof.Gen.Kernel.Loops
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [BitOps F]
local notation "𝕄" => MT nD τ sig Unit (Elt F) ℕ (UR sig nD τ) ℕ

/-- The second call's body is the first's. -/
theorem body_same : @cc1_anchor_delta_codec F _ = @cc0_anchor_delta_codec F _ := rfl

/-- A buffer held with whatever contents. -/
theorem some_owns {c : Dev nD} {sp : Space} {s : Shape} {e : EltTy} (r : Memref sig .tc sp s e) {X : BufTy.Contents (Elt F) r.view.ty} :
    (iprop(r.view.loc (c : Thread nD τ) ↦[r.view.set]{fullShare} X) : sProp 𝕄) ⊢ iprop(∃ d, ∃ f, ⌜r.view.read (Elt F) f = d⌝ ∗ (r.view.loc (c : Thread nD τ) ↦[r.view.set]{fullShare} f)) := by
  iintro H
  iexists (r.view.read (Elt F) X); iexists X; isplitl []
  · ipureintro; rfl
  · iexact H

set_option maxHeartbeats 4000000 in
/-- The body runs through and leaves the block it reads as it was. -/
theorem body_triple (c : Dev nD) (i : grid0.Coords) (arg2 : Memref sig .tc .vmem S1x768x32x128 .bf16) (harg2 : arg2.IsWhole) (arg3 : Memref sig .tc .vmem S1x768x32x128 .bf16) (harg3 : arg3.IsWhole) (arg4 : Memref sig .tc .vmem S1x77x32x128 .fp8e4m3) (harg4 : arg4.IsWhole) (arg5 : Memref sig .tc .vmem S1x32x128 .f32) (harg5 : arg5.IsWhole) (arg6 : Memref sig .tc .vmem S1x384x32x128 .i8) (harg6 : arg6.IsWhole) (arg7 : Memref sig .tc .vmem S1x32x128 .f32) (harg7 : arg7.IsWhole) (arg8 : Memref sig .tc .vmem S77x16x128 .i32) (harg8 : arg8.IsWhole) (arg9 : Memref sig .tc .vmem S77x16x128 .i32) (harg9 : arg9.IsWhole) (arg10 : Memref sig .tc .vmem S77x32x128 .f32) (harg10 : arg10.IsWhole) (x0 : Vec F S1x768x32x128 .bf16) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_anchor_delta_codec i arg2 harg2 arg3 harg3 arg4 harg4 arg5 harg5 arg6 harg6 arg7 harg7 arg8 harg8 arg9 harg9 arg10 harg10) K := by
    intro E K
    simp only [cc0_anchor_delta_codec_eq_skeleton]; unfold cc0_anchor_delta_codec_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg2.eq_unread hf0
    sl_exec
    sl_step
    iapply Hk
    isplitl [H0]
    · iexists _; isplitl []
      · ipureintro; exact hf0
      · iexact H0
    isplitl [H1]
    · iapply (some_owns (c := c) arg3); iexact H1
    isplitl [H2]
    · iapply (some_owns (c := c) arg4); iexact H2
    isplitl [H3]
    · iapply (some_owns (c := c) arg5); iexact H3
    isplitl [H4]
    · iapply (some_owns (c := c) arg6); iexact H4
    isplitl [H5]
    · iapply (some_owns (c := c) arg7); iexact H5
    isplitl [HS0]
    · iapply (some_owns (c := c) arg8); iexact HS0
    isplitl [HS1]
    · iapply (some_owns (c := c) arg9); iexact HS1
    iapply (some_owns (c := c) arg10); iexact HS2

variable (m : (ℓ : Loc nD τ sig) → Buf (Elt F) ℓ) (ρ : Dev nD → PrngReg)

/-- A core's buffers as launched. -/
abbrev V (c : Dev nD) (b : Ref sig .tc) : Buf (Elt F) ((c : Thread nD τ).loc b) := m ((c : Thread nD τ).loc b)

/-- The windows whose contents are forgotten: the five results. -/
def outs (w : Fin 6) : Bool := match w with
  | ⟨0, _⟩ => false
  | ⟨_ + 1, _⟩ => true

namespace Call0

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data. What the output windows' buffers hold after the body is forgotten (`outs`), so any contents do. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]

theorem before0_0 (c : Dev nD) (t : Fin cfg0.N) (d) : (dat m c).before 0 t d = iblk m c 0 t :=
  before0_0_of m (dat m c) (A_eq m c 0) (after0_0 m c) t d

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

/-- The scratch buffers, this call's and the other's, the other call's staging buffers and the generator register are what the invariant holds. -/
theorem inv_eq (c : Dev nD) (t : Fin (cfg0.N + 1)) : (dat m c).Φ t
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
        ∗ (∃ r, prngReg c r)) := by
  show Pipeline.ΦA spec0 c = _
  unfold Pipeline.ΦA
  rw [scopedRest0_eq]
  simp only [owns_whole]

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [inv_eq, inv_eq, show (dat m c).owesAt () t.succ = (dat m c).owesAt () t.castSucc from rfl, after0_0]
  iintro ⟨⟨⟨⟨%s0, HS0⟩, ⟨%s1, HS1⟩, ⟨%s2, HS2⟩, HR0, HR1, HR2, HR3, HR4, HR5, HR6, HR7, HR8, HR9, HR10, HR11, HR12, HR13, HR14⟩, Hg⟩, Ho, ⟨%d0, H0⟩, ⟨%d1, H1⟩, ⟨%d2, H2⟩, ⟨%d3, H3⟩, ⟨%d4, H4⟩, ⟨%d5, H5⟩⟩
  iapply (body_triple c _ _ _ _ _ _ _ _ _ _ _ _ _ _ _ _ _ _ _ (iblk m c 0 t) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexists _; iexact HS0
  isplitl [HS1]; · iexists _; iexact HS1
  isplitl [HS2]; · iexists _; iexact HS2
  iintro ⟨H0, H1, H2, H3, H4, H5, HS0, HS1, HS2⟩
  isplitl [HS0 HS1 HS2 HR0 HR1 HR2 HR3 HR4 HR5 HR6 HR7 HR8 HR9 HR10 HR11 HR12 HR13 HR14 Hg]
  · isplitl [HS0 HS1 HS2 HR0 HR1 HR2 HR3 HR4 HR5 HR6 HR7 HR8 HR9 HR10 HR11 HR12 HR13 HR14]
    · isplitl [HS0]; · iexact HS0
      isplitl [HS1]; · iexact HS1
      isplitl [HS2]; · iexact HS2
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      iexact HR14
    · iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dat (F := F) m c) (defs₀ (F := F)) Variants.none () Set.univ outs := fun t => by
  rw [bigSep_W0, bigSep_W0, defs₀_row]
  exact triple_restated (sound_body m c t) rfl .rfl fun _ => .rfl

end Call0

namespace Call1

/-- Window `w`'s block at point `t`, read off its array as launched. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data. What the output windows' buffers hold after the body is forgotten (`outs`), so any contents do. -/
def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec1 c
  q _ := fullShare
  owed _ := 0

theorem A_eq (c : Dev nD) (w : Fin cfg1.W) : (dat m c).A w = V m c (Pipeline.arrRef spec1 w) := by
  dsimp only [dat]

theorem after1_0 (c : Dev nD) (t : Fin cfg1.N) : (dat m c).after 0 t = iblk m c 0 t := by dsimp only [dat]

theorem before1_0 (c : Dev nD) (t : Fin cfg1.N) (d) : (dat m c).before 0 t d = iblk m c 0 t :=
  before1_0_of m (dat m c) (A_eq m c 0) (after1_0 m c) t d

def bodyPre (c : Dev nD) (t : Fin cfg1.N) : sProp 𝕄 :=
  iprop((dat m c).Φ t.castSucc ∗ (dat m c).owesAt () t.castSucc
    ∗ (∃ d, owns (c : Thread nD τ) (st1_0 t) fullShare ((dat m c).before 0 t d))
    ∗ (∃ d, owns (c : Thread nD τ) (st1_1 t) fullShare d)
    ∗ (∃ d, owns (c : Thread nD τ) (st1_2 t) fullShare d)
    ∗ (∃ d, owns (c : Thread nD τ) (st1_3 t) fullShare d)
    ∗ (∃ d, owns (c : Thread nD τ) (st1_4 t) fullShare d)
    ∗ (∃ d, owns (c : Thread nD τ) (st1_5 t) fullShare d))

def bodyPost (c : Dev nD) (t : Fin cfg1.N) : sProp 𝕄 :=
  iprop((dat m c).Φ t.succ ∗ (dat m c).owesAt () t.succ
    ∗ owns (c : Thread nD τ) (st1_0 t) fullShare ((dat m c).after 0 t)
    ∗ (∃ d, owns (c : Thread nD τ) (st1_1 t) fullShare d)
    ∗ (∃ d, owns (c : Thread nD τ) (st1_2 t) fullShare d)
    ∗ (∃ d, owns (c : Thread nD τ) (st1_3 t) fullShare d)
    ∗ (∃ d, owns (c : Thread nD τ) (st1_4 t) fullShare d)
    ∗ (∃ d, owns (c : Thread nD τ) (st1_5 t) fullShare d))

/-- The scratch buffers, this call's and the other's, the other call's staging buffers and the generator register are what the invariant holds. -/
theorem inv_eq (c : Dev nD) (t : Fin (cfg1.N + 1)) : (dat m c).Φ t
    = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d))
        ∗ (∃ r, prngReg c r)) := by
  show Pipeline.ΦA spec1 c = _
  unfold Pipeline.ΦA
  rw [scopedRest1_eq]
  simp only [owns_whole]

/-- The body at any point of the grid. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  rw [body_same]
  simp only [before1_0]
  rw [inv_eq, inv_eq, show (dat m c).owesAt () t.succ = (dat m c).owesAt () t.castSucc from rfl, after1_0]
  iintro ⟨⟨⟨HR0, HR1, HR2, HR3, HR4, HR5, HR6, HR7, HR8, HR9, HR10, HR11, HR12, HR13, HR14, ⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩⟩
  iapply (body_triple c _ _ _ _ _ _ _ _ _ _ _ _ _ _ _ _ _ _ _ (iblk m c 0 t) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexists _; iexact HS0
  isplitl [HS1]; · iexists _; iexact HS1
  isplitl [HS2]; · iexists _; iexact HS2
  iintro ⟨H0, H1, H2, H3, H4, H5, HS0, HS1, HS2⟩
  isplitl [HR0 HR1 HR2 HR3 HR4 HR5 HR6 HR7 HR8 HR9 HR10 HR11 HR12 HR13 HR14 HS0 HS1 HS2 Hg]
  · isplitl [HR0 HR1 HR2 HR3 HR4 HR5 HR6 HR7 HR8 HR9 HR10 HR11 HR12 HR13 HR14 HS0 HS1 HS2]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HS0]; · iexact HS0
      isplitl [HS1]; · iexact HS1
      iexact HS2
    · iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligationLoose (dat (F := F) m c) (defs₀ (F := F)) Variants.none () Set.univ outs := fun t => by
  rw [bigSep_W1, bigSep_W1, defs₀_row]
  exact triple_restated (sound_body m c t) rfl .rfl fun _ => .rfl

end Call1

/-! ## The two calls together -/

/-- Both calls' proof data. -/
def pdats : (p : Fin 2) → (c : Dev nD) → Dat τ (Elt F) Unit ℕ (UR sig nD τ) ℕ (Pipeline.pin (pcfgs (F := F)) adm p) c
  | ⟨0, _⟩, c => Call0.dat m c
  | ⟨1, _⟩, c => Call1.dat m c

/-- The windows whose contents are forgotten. -/
def fgt : (p : Fin 2) → Fin (Pipeline.pin (pcfgs (F := F)) adm p).W → Bool
  | ⟨0, _⟩ => outs
  | ⟨1, _⟩ => outs

set_option backward.isDefEq.respectTransparency.types false in
set_option maxHeartbeats 800000 in
/-- The run: every array of either call ends at contents its proof data allow, every counter at zero. -/
theorem run_arrays : θ_run defs (onTc (τ := τ) (main (F := F))) ⟨m, fun _ => 0, ρ⟩ (fun r =>
      (∀ c p w, (TwoCalls.rds (pcfgs (F := F)) adm (pdats m) fgt p c).ArrAt w (Pipeline.pin (pcfgs (F := F)) adm p).N
          (r.2.mem (((Pipeline.pin (pcfgs (F := F)) adm p).spec w).arr.view.loc (c.tc : Thread nD τ))))
        ∧ r.2.sem = fun _ => 0) := by
  refine TwoCalls.run (pcfgs (F := F)) adm (pdats m) defs₀ Variants.none fgt ?_ ?_ ?_ ?_ ?_ ?_ ?_ m ρ ?_ ?_ ?_ main main_chain
  · intro p
    fin_cases p
    · exact launch0.toP
    · exact launch1.toP
  · intro p
    rfl
  · intro p c
    fin_cases p
    · exact Call0.body_obligation m c
    · exact Call1.body_obligation m c
  · intro p c t
    fin_cases p <;> rfl
  · intro p c
    fin_cases p <;> rfl
  · intro p c t
    fin_cases p <;> rfl
  · intro p c w
    fin_cases p
    · exact (Call0.dat m c).share_full (fun _ => rfl) w
    · exact (Call1.dat m c).share_full (fun _ => rfl) w
  · intro p c w
    fin_cases p <;> rfl
  · show Disjoint (Pipeline.arrRefs spec0) (Pipeline.arrRefs spec1)
    decide
  · decide

/-- Every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
    ((Pipeline.Dat.toRForget_arrAt_iff (dat := Call0.dat m c) (w := 0) rfl _ _).mp (h.1 c 0 0)).trans ((Call0.dat m c).arrAt_in 0 rfl _),
    ((Pipeline.Dat.toRForget_arrAt_iff (dat := Call1.dat m c) (w := 0) rfl _ _).mp (h.1 c 1 0)).trans ((Call1.dat m c).arrAt_in 0 rfl _)⟩, h.2⟩) (run_arrays m ρ)

end Cert.Kernel.Gen
end
-- ==== Proof.Base.lean ====
/-
  The two calls of the kernel have one body: what is shown of the first call's body holds of the second's.
-/
module
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
@[expose] public section
set_option maxRecDepth 16384
noncomputable section
namespace Cert.KernelIdeal.Gen
open Idealize.ShloMosaic Idealize.ShloMosaic.TcCoe
open Idealize.SL Idealize.SL.Sem
variable {F : FTy → Type} [FloatOps F]

/-- The second call's body is the first's. -/
theorem body_same : @cc1_anchor_delta_codec F _ = @cc0_anchor_delta_codec F _ := rfl

end Cert.KernelIdeal.Gen
end
-- ==== Proof.Codec.lean ====
/-
  The codec along one column, as the kernel computes it.

  A column is one (batch, head, dim): the 768 tokens of the key at that place, as a map `X : ℕ → EReal`. Everything the
  kernel computes is computed column by column; the definitions below write it down for one column, with the kernel's own
  order of operations (running maxima, the counting of powers of two, the reciprocal of the delta's scale, the byte made by
  an addition that puts the code in the low bits). `CodecEq` shows that these are the quantiser of the reference.
-/
module

public import Idealize.ShloMosaic.Lib.Pointwise

@[expose] public section

noncomputable section

namespace Cert.Codec

open Idealize.ShloMosaic

/-- The magnitude. -/
abbrev mag (x : EReal) : EReal := max x (-x)

/-- The running maximum of the anchors' magnitudes after `k` groups, begun at 0. -/
def amaxN (X : ℕ → EReal) : ℕ → EReal
  | 0 => 0
  | k + 1 => max (amaxN X k) (mag (X (10 * k)))

/-- The maximum of `n + 1` tokens from `t` on. -/
def hiN (X : ℕ → EReal) (t : ℕ) : ℕ → EReal
  | 0 => X t
  | n + 1 => max (hiN X t n) (X (t + (n + 1)))

/-- The minimum of `n + 1` tokens from `t` on. -/
def loN (X : ℕ → EReal) (t : ℕ) : ℕ → EReal
  | 0 => X t
  | n + 1 => min (loN X t n) (X (t + (n + 1)))

/-- How many tokens follow the anchor in group `g`: 9, in the last group 7. -/
def restOf (g : ℕ) : ℕ := if g < 76 then 9 else 7

/-- The largest token of group `g`. -/
def hiG (X : ℕ → EReal) (g : ℕ) : EReal := hiN X (10 * g) (restOf g)

/-- The smallest token of group `g`. -/
def loG (X : ℕ → EReal) (g : ℕ) : EReal := loN X (10 * g) (restOf g)

/-- All groups but the last are whole. -/
theorem hiG_lt {X : ℕ → EReal} {k : ℕ} (hk : k < 76) : hiG X k = hiN X (10 * k) 9 := by
  unfold hiG restOf
  rw [if_pos hk]

/-- All groups but the last are whole. -/
theorem loG_lt {X : ℕ → EReal} {k : ℕ} (hk : k < 76) : loG X k = loN X (10 * k) 9 := by
  unfold loG restOf
  rw [if_pos hk]

/-- The last group. -/
theorem hiG_last {X : ℕ → EReal} : hiG X 76 = hiN X 760 7 := rfl

/-- The last group. -/
theorem loG_last {X : ℕ → EReal} : loG X 76 = loN X 760 7 := rfl

/-- Among the first `n` powers of two from `2^-126` up, the number that do not exceed `ratio` (as a word). -/
def cntN (ratio : EReal) : ℕ → BitVec 32
  | 0 => 0#32
  | n + 1 => IntOp.addi (cntN ratio n)
      (if ratio < Ideal.ofBits FTy.f32 (Scalar.shli (Scf.iv 1#32 1#32 n) 23#32) then 0#32 else 1#32)

/-- The exponent of the anchors' scale from the count: 0 when nothing was counted. -/
def expK (n : BitVec 32) : BitVec 32 :=
  Scalar.select (IntOp.cmpi CmpIPredicate.eq n 0#32) (0#32) (IntOp.subi n 126#32)

/-- The anchors' scale: the power of two, written down as a binary32 word. -/
def scaleK (n : BitVec 32) : EReal :=
  Ideal.ofBits FTy.f32 (IntOp.shli ArithUnit.vector (IntOp.addi (127#32) (expK n)) 23#32)

/-- The anchors' inverse scale, likewise. -/
def invK (n : BitVec 32) : EReal :=
  Ideal.ofBits FTy.f32 (IntOp.shli ArithUnit.vector (IntOp.subi (127#32) (expK n)) 23#32)

/-- An anchor's code: scaled and clipped to ±448. -/
def codeK (inv x : EReal) : EReal :=
  min (Ideal.ofBits FTy.f32 1138753536#32) (max (Ideal.ofBits FTy.f32 3286237184#32) (x * inv))

/-- The deltas' scale from their largest magnitude: a seventh of it, 1 if it is 0. -/
def dscaleK (d : EReal) : EReal :=
  if d = 0 then 1 else Ideal.div d (Ideal.ofBits FTy.f32 1088421888#32)

/-- A token's delta code: times the inverse scale, rounded to the nearest even integer, clipped to ±7. -/
def qK (x deq inv : EReal) : EReal :=
  min (Ideal.ofBits FTy.f32 1088421888#32)
    (max (Ideal.ofBits FTy.f32 3235905536#32) (Ideal.liftRound Ideal.roundHalfEven ((x - deq) * inv)))

/-- A delta code as a byte. -/
def nibK (q : EReal) : BitVec 8 :=
  BitVec.setWidth 8 (BitVec.setWidth 16
    (IntOp.addi (FloatOps.fptosi (F := Ideal) (φ := .bf16) 32 (q + Ideal.ofBits FTy.bf16 17216#16)) 17024#32))

/-- Two delta codes in one byte, the even token's in the low half. -/
def byteK (q q' : EReal) : BitVec 8 :=
  IntOp.ori (IntOp.andi (nibK q) 15#8) (IntOp.shli ArithUnit.vector (nibK q') 4#8)

variable (X : ℕ → EReal)

/-- The count for the column: of its anchors' largest magnitude over 448. -/
def cntX : BitVec 32 := cntN (amaxN X 77 * Ideal.ofBits FTy.f32 991054117#32) 255

/-- The code of anchor `g`. -/
def codeX (g : ℕ) : EReal := codeK (invK (cntX X)) (X (10 * g))

/-- Anchor `g` decoded. -/
def deqX (g : ℕ) : EReal := codeX X g * scaleK (cntX X)

/-- The running maximum of the deltas' magnitudes after `k` groups, from the groups' extrema. -/
def dmaxN : ℕ → EReal
  | 0 => 0
  | k + 1 => max (dmaxN k) (max (hiG X k - deqX X k) (deqX X k - loG X k))

/-- The column's deltas' scale. -/
def dscaleX : EReal := dscaleK (dmaxN X 77)

/-- The delta code of token `t`. -/
def qX (t : ℕ) : EReal := qK (X t) (deqX X (t / 10)) (Ideal.div 1 (dscaleX X))

/-- Token `t` decoded. -/
def xhatX (t : ℕ) : EReal := deqX X (t / 10) + qX X t * dscaleX X

/-- The byte of tokens `2 p` and `2 p + 1`. -/
def byteX (p : ℕ) : BitVec 8 := byteK (qX X (2 * p)) (qX X (2 * p + 1))

end Cert.Codec

end
-- ==== Proof.Rows.lean ====
/-
  What the kernel's body loads and leaves, block by block, at the extended reals: the windows' contents column by column
  (`Codec`), how a list of stores reads back, and where the rows the body loads and stores lie.
-/
module
public import proofs.«01_k».proof.Proof.Base
public import proofs.«01_k».proof.Proof.Gen.KernelIdeal.Loops
public import proofs.«01_k».proof.Proof.Codec
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ

open Cert.Codec

/-- The column of the block `x` at head `r` and dim `l`. -/
def col (x : S1x768x32x128.Idx → EReal) (r : Fin 32) (l : Fin 128) (t : ℕ) : EReal :=
  if h : t < 768 then x (ix4 0 ⟨t, h⟩ r l) else 0

/-- Heads are stored in pairs: picking out of pair `n / 2` by the parity of `n` gives head `n`. -/
theorem col_par (x : S1x768x32x128.Idx → EReal) (l : Fin 128) (t n : ℕ) (h : 2 * (n / 2) < 32) (h' : 2 * (n / 2) + 1 < 32) :
    (if n % 2 = 0 then col x ⟨2 * (n / 2), h⟩ l t else col x ⟨2 * (n / 2) + 1, h'⟩ l t) = col x ⟨n, by omega⟩ l t := by
  split
  · congr 2; omega
  · congr 2; omega

/-- What the body leaves in the window of decoded tokens. -/
def XHAT (x : Vec Ideal S1x768x32x128 .bf16) : Vec Ideal S1x768x32x128 .bf16 := fun y => xhatX (col x (y 2) (y 3)) (y 1).val

/-- What the body leaves in the window of anchor codes. -/
def ACODE (x : Vec Ideal S1x768x32x128 .bf16) : Vec Ideal S1x77x32x128 .fp8e4m3 := fun y => codeX (col x (y 2) (y 3)) (y 1).val

/-- What the body leaves in the window of the anchors' scales. -/
def ASCALE (x : Vec Ideal S1x768x32x128 .bf16) : Vec Ideal S1x32x128 .f32 := fun y => scaleK (cntX (col x (y 1) (y 2)))

/-- What the body leaves in the window of packed delta codes. -/
def PACKED (x : Vec Ideal S1x768x32x128 .bf16) : Vec Ideal S1x384x32x128 .i8 := fun y => byteX (col x (y 2) (y 3)) (y 1).val

/-- What the body leaves in the window of the deltas' scales. -/
def DSCALE (x : Vec Ideal S1x768x32x128 .bf16) : Vec Ideal S1x32x128 .f32 := fun y => dscaleX (col x (y 1) (y 2))

/-! ## Reading back a list of stores -/

section Fills
variable {sg : RefSig} {κ : Kind} {sp : Space} {s : Shape} {e : EltTy}

/-- The stores of `L` write the values of `G`, and reach every index of which `cov` holds. -/
structure Fills (G : s.Idx → Elt Ideal e) (cov : s.Idx → Prop) (L : List (View.Piece (Elt Ideal) s e)) : Prop where
  pieces : ∀ p ∈ L, ∀ x, p.2 x = G (p.1.emb x)
  covers : ∀ y, cov y → ∃ p ∈ L, ∃ x, p.1.emb x = y

/-- What such stores leave reads as `G` wherever they reach. -/
theorem Fills.read {G : s.Idx → Elt Ideal e} {cov : s.Idx → Prop} {L : List (View.Piece (Elt Ideal) s e)} (h : Fills G cov L)
    (v : View sg κ sp s e) (f : v.ty.Contents (Elt Ideal)) (y : s.Idx) (hy : cov y) :
    v.read (Elt Ideal) (v.writes (Elt Ideal) f L) y = G y := by
  have key : ∀ L : List (View.Piece (Elt Ideal) s e), (∀ p ∈ L, ∀ x, p.2 x = G (p.1.emb x)) → (∃ p ∈ L, ∃ x, p.1.emb x = y) →
      v.read (Elt Ideal) (v.writes (Elt Ideal) f L) y = G y := by
    intro L
    induction L with
    | nil => rintro - ⟨p, hp, -⟩; cases hp
    | cons p L ih =>
      intro hp hc
      by_cases hm : ∃ x, p.1.emb x = y
      · obtain ⟨x, rfl⟩ := hm
        rw [← hp p (List.mem_cons_self ..) x]
        exact View.read_writes_cons_emb (v := v) (f := f) p.1 p.2 L x
      · rw [View.writes_cons, View.read_slice_write_of_not_mem p.1 _ _ _ (by simpa using hm)]
        refine ih (fun q hq => hp q (List.mem_cons_of_mem _ hq)) ?_
        obtain ⟨q, hq, hx⟩ := hc
        rcases List.mem_cons.mp hq with rfl | hq
        · exact absurd hx hm
        · exact ⟨q, hq, hx⟩
  exact key L h.pieces (h.covers y hy)

theorem Fills.nil {G : s.Idx → Elt Ideal e} {cov : s.Idx → Prop} (h : ∀ y, ¬ cov y) : Fills G cov [] :=
  ⟨(fun p hp => nomatch hp), (fun y hy => absurd hy (h y))⟩

/-- One more store in front. -/
theorem Fills.cons {G : s.Idx → Elt Ideal e} {cov cov' : s.Idx → Prop} {L : List (View.Piece (Elt Ideal) s e)} {p : View.Piece (Elt Ideal) s e}
    (hp : ∀ x, p.2 x = G (p.1.emb x)) (h : Fills G cov L) (hc : ∀ y, cov' y → cov y ∨ ∃ x, p.1.emb x = y) : Fills G cov' (p :: L) := by
  refine ⟨fun q hq => ?_, fun y hy => ?_⟩
  · rcases List.mem_cons.mp hq with rfl | hq
    · exact hp
    · exact h.pieces q hq
  · rcases hc y hy with hy | hx
    · obtain ⟨q, hq, hx⟩ := h.covers y hy
      exact ⟨q, List.mem_cons_of_mem _ hq, hx⟩
    · exact ⟨p, List.mem_cons_self .., hx⟩

end Fills

/-! ## Rows: the rectangles the body loads and stores -/

/-- Row `n` of a block `[1, N, 32, 128]`: where the store's own index lands. -/
theorem emb_row {N n : ℕ} {off : Fin 4 → ℕ} (h : off = ![0, n, 0, 0]) (inb : ∀ a, off a + (⟨4, ![1, 1, 32, 128]⟩ : Shape).size a ≤ (⟨4, ![1, N, 32, 128]⟩ : Shape).size a)
    (x : (⟨4, ![1, 1, 32, 128]⟩ : Shape).Idx) (hn : n < N) :
    (Rect.unit (s := ⟨4, ![1, N, 32, 128]⟩) off (⟨4, ![1, 1, 32, 128]⟩ : Shape).size inb).emb x = ix4 0 ⟨n, hn⟩ (x 2) (x 3) := by
  subst h
  funext a
  apply Fin.ext
  match a with
  | ⟨0, _⟩ => show 0 + 1 * (x 0).val = 0; have := (x 0).isLt; change _ < 1 at this; omega
  | ⟨1, _⟩ => show n + 1 * (x 1).val = n; have := (x 1).isLt; change _ < 1 at this; omega
  | ⟨2, _⟩ => show 0 + 1 * (x 2).val = (x 2).val; omega
  | ⟨3, _⟩ => show 0 + 1 * (x 3).val = (x 3).val; omega

/-- Row `n` of a scratch of pairs `[77, 16, 2, 128]`. -/
theorem emb_pair {n : ℕ} {off : Fin 4 → ℕ} (h : off = ![n, 0, 0, 0]) (inb : ∀ a, off a + S1x16x2x128.size a ≤ S77x16x2x128.size a)
    (x : S1x16x2x128.Idx) (hn : n < 77) :
    (Rect.unit (s := S77x16x2x128) off S1x16x2x128.size inb).emb x = ix4 ⟨n, hn⟩ (x 1) (x 2) (x 3) := by
  subst h
  funext a
  apply Fin.ext
  match a with
  | ⟨0, _⟩ => show n + 1 * (x 0).val = n; have := (x 0).isLt; change _ < 1 at this; omega
  | ⟨1, _⟩ => show 0 + 1 * (x 1).val = (x 1).val; omega
  | ⟨2, _⟩ => show 0 + 1 * (x 2).val = (x 2).val; omega
  | ⟨3, _⟩ => show 0 + 1 * (x 3).val = (x 3).val; omega

/-- Row `n` of a scratch `[77, 32, 128]`. -/
theorem emb_deq {n : ℕ} {off : Fin 3 → ℕ} (h : off = ![n, 0, 0]) (inb : ∀ a, off a + S1x32x128.size a ≤ S77x32x128.size a)
    (x : S1x32x128.Idx) (hn : n < 77) :
    (Rect.unit (s := S77x32x128) off S1x32x128.size inb).emb x = ix3 ⟨n, hn⟩ (x 1) (x 2) := by
  subst h
  funext a
  apply Fin.ext
  match a with
  | ⟨0, _⟩ => show n + 1 * (x 0).val = n; have := (x 0).isLt; change _ < 1 at this; omega
  | ⟨1, _⟩ => show 0 + 1 * (x 1).val = (x 1).val; omega
  | ⟨2, _⟩ => show 0 + 1 * (x 2).val = (x 2).val; omega

/-- An index of row `n` is row `n`'s. -/
theorem pair_self (y : S77x16x2x128.Idx) (n : ℕ) {hn : n < 77} (h : (y 0).val = n) : (ix4 ⟨n, hn⟩ (y 1) (y 2) (y 3) : S77x16x2x128.Idx) = y := by
  subst h
  exact (eq_ix4 y).symm

/-- An index of row `n` is row `n`'s. -/
theorem deq_self (y : S77x32x128.Idx) (n : ℕ) {hn : n < 77} (h : (y 0).val = n) : (ix3 ⟨n, hn⟩ (y 1) (y 2) : S77x32x128.Idx) = y := by
  subst h
  exact (eq_ix3 y).symm

/-- An index of row `n` is row `n`'s. -/
theorem row_self {N : ℕ} (y : (⟨4, ![1, N, 32, 128]⟩ : Shape).Idx) (n : ℕ) {hn : n < N} (h : (y 1).val = n) : (ix4 0 ⟨n, hn⟩ (y 2) (y 3) : (⟨4, ![1, N, 32, 128]⟩ : Shape).Idx) = y := by
  subst h
  funext a
  match a with
  | ⟨0, _⟩ => exact Fin.ext (by have := (y 0).isLt; change _ < 1 at this; show 0 = (y 0).val; omega)
  | ⟨1, _⟩ => rfl
  | ⟨2, _⟩ => rfl
  | ⟨3, _⟩ => rfl

/-- One more row in front of the rows before it. -/
theorem Fills.row_cons {e : EltTy} {N n c : ℕ} {G : (⟨4, ![1, N, 32, 128]⟩ : Shape).Idx → Elt Ideal e} {L : List (View.Piece (Elt Ideal) ⟨4, ![1, N, 32, 128]⟩ e)}
    {off : Fin 4 → ℕ} {inb : ∀ a, off a + (⟨4, ![1, 1, 32, 128]⟩ : Shape).size a ≤ (⟨4, ![1, N, 32, 128]⟩ : Shape).size a} {P : (⟨4, ![1, 1, 32, 128]⟩ : Shape).Idx → Elt Ideal e}
    (h : off = ![0, n, 0, 0]) (hn : n < N) (hp : ∀ x : (⟨4, ![1, 1, 32, 128]⟩ : Shape).Idx, P x = G (ix4 0 ⟨n, hn⟩ (x 2) (x 3))) (hc : c = n + 1)
    (hL : Fills G (fun y => (y 1).val < n) L) :
    Fills G (fun y => (y 1).val < c) (⟨Rect.unit (s := ⟨4, ![1, N, 32, 128]⟩) off (⟨4, ![1, 1, 32, 128]⟩ : Shape).size inb, P⟩ :: L) := by
  subst hc
  refine Fills.cons (fun x => ?_) hL (fun y hy => ?_)
  · rw [emb_row h _ x hn]
    exact hp x
  · rcases Nat.lt_succ_iff_lt_or_eq.mp hy with h' | h'
    · exact Or.inl h'
    · refine Or.inr ⟨ix4 0 0 (y 2) (y 3), ?_⟩
      rw [emb_row h _ _ hn]
      exact row_self y n h'

section Rows
variable (x0 : Vec Ideal S1x768x32x128 .bf16)

/-- Token row `n` of the block, as loaded. -/
def rowV (n : ℕ) : Vec Ideal S1x1x32x128 .bf16 := fun y => col x0 (y 2) (y 3) n

/-- The groups' maxima, as the scratch of pairs holds them. -/
def G8 : Vec Ideal S77x16x2x128 .bf16 := fun y => hiG (col x0 ⟨2 * (y 1).val + (y 2).val, by have h1 := (y 1).isLt; have h2 := (y 2).isLt; change _ < 16 at h1; change _ < 2 at h2; omega⟩ (y 3)) (y 0).val

/-- The groups' minima, as the scratch of pairs holds them. -/
def G9 : Vec Ideal S77x16x2x128 .bf16 := fun y => loG (col x0 ⟨2 * (y 1).val + (y 2).val, by have h1 := (y 1).isLt; have h2 := (y 2).isLt; change _ < 16 at h1; change _ < 2 at h2; omega⟩ (y 3)) (y 0).val

/-- The decoded anchors, as the scratch holds them. -/
def G10 : Vec Ideal S77x32x128 .f32 := fun y => deqX (col x0 (y 1) (y 2)) (y 0).val

/-- The anchors' running maximum before group `k`. -/
def amaxV (k : ℕ) : FVec Ideal S32x128 .bf16 := fun j => amaxN (col x0 (j 0) (j 1)) k

/-- The counts. -/
def cntV : IVec S32x128 32 := fun j => cntX (col x0 (j 0) (j 1))

/-- The deltas' running maximum before group `k`. -/
def dmaxV (k : ℕ) : FVec Ideal S32x128 .f32 := fun j => dmaxN (col x0 (j 0) (j 1)) k

/-- The deltas' scales. -/
def dscaleV : FVec Ideal S32x128 .f32 := fun j => dscaleX (col x0 (j 0) (j 1))

/-- Their inverses. -/
def dinvV : FVec Ideal S32x128 .f32 := fun j => Ideal.div 1 (dscaleX (col x0 (j 0) (j 1)))

/-- A token of group `g`, decoded. -/
def cellX (X : ℕ → EReal) (g t : ℕ) : EReal := deqX X g + qK (X t) (deqX X g) (Ideal.div 1 (dscaleX X)) * dscaleX X

theorem xhat_cell {X : ℕ → EReal} {g t : ℕ} (h : t / 10 = g) : xhatX X t = cellX X g t := by
  subst h
  rfl

/-- Heads are stored in pairs: the decoded token. -/
theorem cell_par (x : S1x768x32x128.Idx → EReal) (l : Fin 128) (g t n : ℕ) (h : 2 * (n / 2) < 32) (h' : 2 * (n / 2) + 1 < 32) :
    (if n % 2 = 0 then cellX (col x ⟨2 * (n / 2), h⟩ l) g t else cellX (col x ⟨2 * (n / 2) + 1, h'⟩ l) g t) = cellX (col x ⟨n, by omega⟩ l) g t := by
  split
  · congr 2; congr 1; omega
  · congr 2; congr 1; omega

/-- The byte of two tokens of group `g`. -/
theorem byte_cell {X : ℕ → EReal} {g p t t' : ℕ} (h : t = 2 * p) (h' : t' = 2 * p + 1) (hg : t / 10 = g) (hg' : t' / 10 = g) :
    byteX X p = byteK (qK (X t) (deqX X g) (Ideal.div 1 (dscaleX X))) (qK (X t') (deqX X g) (Ideal.div 1 (dscaleX X))) := by
  subst h h'
  unfold byteX qX
  rw [hg, hg']

variable {x0} in
/-- A load of token row `n`. -/
theorem load_row (arg2 : Memref sig .tc .vmem S1x768x32x128 .bf16) (harg2 : arg2.IsWhole) {n : ℕ} {off : Fin 4 → ℕ} (h : off = ![0, n, 0, 0]) (hn : n < 768)
    (inb : ∀ a, off a + S1x1x32x128.size a ≤ S1x768x32x128.size a) :
    View.readAt (Elt Ideal) arg2.view (Rect.unit (s := S1x768x32x128) off S1x1x32x128.size inb).toLoadRect (harg2.unread x0) = rowV x0 n := by
  rw [View.readAt_eq_ld, Memref.IsWhole.read_unread]
  funext y
  show x0 ((Rect.unit (s := S1x768x32x128) off S1x1x32x128.size inb).emb y) = col x0 (y 2) (y 3) n
  rw [emb_row h inb y hn]
  unfold col
  rw [dif_pos hn]
  rfl

/-- A load of a row of pairs from a scratch that reads as `G`. -/
theorem load_pair (v : View sig .tc .vmem S77x16x2x128 .bf16) {X : v.ty.Contents (Elt Ideal)} {G : Vec Ideal S77x16x2x128 .bf16} (hX : v.read (Elt Ideal) X = G)
    {n : ℕ} {off : Fin 4 → ℕ} (h : off = ![n, 0, 0, 0]) (hn : n < 77) (inb : ∀ a, off a + S1x16x2x128.size a ≤ S77x16x2x128.size a) :
    View.readAt (Elt Ideal) v (Rect.unit (s := S77x16x2x128) off S1x16x2x128.size inb).toLoadRect X = fun y => G (ix4 ⟨n, hn⟩ (y 1) (y 2) (y 3)) := by
  rw [View.readAt_eq_ld, hX]
  funext y
  show G ((Rect.unit (s := S77x16x2x128) off S1x16x2x128.size inb).emb y) = _
  rw [emb_pair h inb y hn]
  rfl

/-- A load of row `n` of the decoded anchors, wherever the scratch reads as `G` there. -/
theorem load_deq (v : View sig .tc .vmem S77x32x128 .f32) {X : v.ty.Contents (Elt Ideal)} {G : Vec Ideal S77x32x128 .f32} (hX : v.read (Elt Ideal) X = G)
    {n : ℕ} {off : Fin 3 → ℕ} (h : off = ![n, 0, 0]) (hn : n < 77) (inb : ∀ a, off a + S1x32x128.size a ≤ S77x32x128.size a) :
    View.readAt (Elt Ideal) v (Rect.unit (s := S77x32x128) off S1x32x128.size inb).toLoadRect X = fun y => G (ix3 ⟨n, hn⟩ (y 1) (y 2)) := by
  rw [View.readAt_eq_ld, hX]
  funext y
  show G ((Rect.unit (s := S77x32x128) off S1x32x128.size inb).emb y) = _
  rw [emb_deq h inb y hn]
  rfl

end Rows
end Cert.KernelIdeal.Gen
end
-- ==== Proof.Loop1.lean ====
/-
  Loop 1: before trip `k` the carried value is the maximum over `k` anchors and the scratches of pairs hold the extrema of `k` groups.
-/
module
public import proofs.«01_k».proof.Proof.Base
public import proofs.«01_k».proof.Proof.Gen.KernelIdeal.Loops
public import proofs.«01_k».proof.Proof.Rows
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
open Cert.Codec

theorem k0_t1_trips : k0_t1_loop.trips = 76 := rfl

/-- One more anchor. -/
theorem amax_step (x0 : Vec Ideal S1x768x32x128 .bf16) (k : ℕ) : k0_pay3 (F := Ideal) (amaxV x0 k) (rowV x0 (10 * k)) = amaxV x0 (k + 1) := by
  funext j
  idx_vars j
  unfold_payloads
  pointwise [amaxV, rowV, amaxN]
  simp only [col_par]
  rfl

/-- What a trip stores of the maxima. -/
theorem hi_store (x0 : Vec Ideal S1x768x32x128 .bf16) (k : ℕ) (hk : k < 76) (y : S1x16x2x128.Idx) :
    k0_pay74 (F := Ideal) (k0_pay18 (k0_pay11 (k0_pay6 (rowV x0 (10 * k)) (rowV x0 (10 * k + 1)) (rowV x0 (10 * k + 2))) (rowV x0 (10 * k + 3)) (rowV x0 (10 * k + 4)) (rowV x0 (10 * k + 5))) (rowV x0 (10 * k + 6)) (rowV x0 (10 * k + 7)) (rowV x0 (10 * k + 8)) (rowV x0 (10 * k + 9))) y
      = G8 x0 (ix4 ⟨k, by omega⟩ (y 1) (y 2) (y 3)) := by
  idx_vars y
  unfold_payloads
  pointwise [G8, rowV]
  rcases Nat.mod_two_eq_zero_or_one y2.val with h | h
  · simp only [h, col_par, if_true, show y2.val = 0 by omega, Nat.add_zero, hiG_lt hk, loG_lt hk, hiN, loN]
  · simp only [h, col_par, if_false, Nat.one_ne_zero, show y2.val = 1 by omega, Nat.one_mod, hiG_lt hk, loG_lt hk, hiN, loN]

/-- What a trip stores of the minima. -/
theorem lo_store (x0 : Vec Ideal S1x768x32x128 .bf16) (k : ℕ) (hk : k < 76) (y : S1x16x2x128.Idx) :
    k0_pay75 (F := Ideal) (k0_pay16 (k0_pay12 (k0_pay7 (rowV x0 (10 * k)) (rowV x0 (10 * k + 1)) (rowV x0 (10 * k + 2))) (rowV x0 (10 * k + 3)) (rowV x0 (10 * k + 4)) (rowV x0 (10 * k + 5))) (rowV x0 (10 * k + 6)) (rowV x0 (10 * k + 7)) (rowV x0 (10 * k + 8))) (k0_pay17 (rowV x0 (10 * k + 9))) y
      = G9 x0 (ix4 ⟨k, by omega⟩ (y 1) (y 2) (y 3)) := by
  idx_vars y
  unfold_payloads
  pointwise [G9, rowV]
  rcases Nat.mod_two_eq_zero_or_one y2.val with h | h
  · simp only [h, col_par, if_true, show y2.val = 0 by omega, Nat.add_zero, hiG_lt hk, loG_lt hk, hiN, loN]
  · simp only [h, col_par, if_false, Nat.one_ne_zero, show y2.val = 1 by omega, Nat.one_mod, hiG_lt hk, loG_lt hk, hiN, loN]

set_option maxHeartbeats 1000000 in
/-- Before trip `k` of loop 1: the carried value is the maximum over `k` anchors, and the scratches of pairs hold the extrema of `k` groups. -/
theorem loop1 (𝒱 : Variants) (c : Dev nD) (bd : Option 𝒱.V) (i : grid0.Coords) (arg2 : Memref sig .tc .vmem S1x768x32x128 .bf16) (harg2 : arg2.IsWhole) (arg3 : Memref sig .tc .vmem S1x768x32x128 .bf16) (harg3 : arg3.IsWhole) (arg4 : Memref sig .tc .vmem S1x77x32x128 .fp8e4m3) (harg4 : arg4.IsWhole) (arg5 : Memref sig .tc .vmem S1x32x128 .f32) (harg5 : arg5.IsWhole) (arg6 : Memref sig .tc .vmem S1x384x32x128 .i8) (harg6 : arg6.IsWhole) (arg7 : Memref sig .tc .vmem S1x32x128 .f32) (harg7 : arg7.IsWhole) (arg8 : Memref sig .tc .vmem S77x16x2x128 .bf16) (harg8 : arg8.IsWhole) (arg9 : Memref sig .tc .vmem S77x16x2x128 .bf16) (harg9 : arg9.IsWhole) (arg10 : Memref sig .tc .vmem S77x32x128 .f32) (harg10 : arg10.IsWhole) (x0 : Vec Ideal S1x768x32x128 .bf16) (k : ℕ) (hk : k ≤ 76) :
    (st_k0_t1 (F := Ideal) 𝒱 c bd i arg2 harg2 arg3 harg3 arg4 harg4 arg5 harg5 arg6 harg6 arg7 harg7 arg8 harg8 arg9 harg9 arg10 harg10 (harg2.unread x0) k0_pay73 k).1 = amaxV x0 k
    ∧ Fills (G8 x0) (fun y => (y 0).val < k) (st_k0_t1 (F := Ideal) 𝒱 c bd i arg2 harg2 arg3 harg3 arg4 harg4 arg5 harg5 arg6 harg6 arg7 harg7 arg8 harg8 arg9 harg9 arg10 harg10 (harg2.unread x0) k0_pay73 k).2.1
    ∧ Fills (G9 x0) (fun y => (y 0).val < k) (st_k0_t1 (F := Ideal) 𝒱 c bd i arg2 harg2 arg3 harg3 arg4 harg4 arg5 harg5 arg6 harg6 arg7 harg7 arg8 harg8 arg9 harg9 arg10 harg10 (harg2.unread x0) k0_pay73 k).2.2 := by
  induction k with
  | zero =>
    refine ⟨?_, Fills.nil (fun y h => Nat.not_lt_zero _ h), Fills.nil (fun y h => Nat.not_lt_zero _ h)⟩
    funext j
    show k0_pay73 (F := Ideal) j = 0
    idx_vars j
    unfold_payloads
    pointwise
  | succ k ih =>
    obtain ⟨hc, h8, h9⟩ := ih (by omega)
    have hk' : k < k0_t1_loop.trips := by rw [k0_t1_trips]; omega
    have hs := st_k0_t1_succ (F := Ideal) 𝒱 c bd i arg2 harg2 arg3 harg3 arg4 harg4 arg5 harg5 arg6 harg6 arg7 harg7 arg8 harg8 arg9 harg9 arg10 harg10 (harg2.unread x0) k0_pay73 ⟨k, hk'⟩
    rw [hc] at hs
    rw [show k + 1 = (⟨k, hk'⟩ : Fin k0_t1_loop.trips).val + 1 from rfl, hs]
    unfold tripR_k0_t1 tripL_k0_t1 trip_k0_t1
    dsimp only
    sl_unfold_run_names
    rw [load_row arg2 harg2 (n := 10 * k) (k0_off1_eq ⟨k, hk'⟩) (by omega)]
    rw [load_row arg2 harg2 (n := 10 * k + 1) (show k0_off2 ⟨k, hk'⟩ 1#32 = ![0, 10 * k + 1, 0, 0] from k0_off2_eq ⟨k, hk'⟩ 0) (by omega)]
    rw [load_row arg2 harg2 (n := 10 * k + 2) (show k0_off2 ⟨k, hk'⟩ 2#32 = ![0, 10 * k + 2, 0, 0] from k0_off2_eq ⟨k, hk'⟩ 1) (by omega)]
    rw [load_row arg2 harg2 (n := 10 * k + 3) (show k0_off2 ⟨k, hk'⟩ 3#32 = ![0, 10 * k + 3, 0, 0] from k0_off2_eq ⟨k, hk'⟩ 2) (by omega)]
    rw [load_row arg2 harg2 (n := 10 * k + 4) (show k0_off2 ⟨k, hk'⟩ 4#32 = ![0, 10 * k + 4, 0, 0] from k0_off2_eq ⟨k, hk'⟩ 3) (by omega)]
    rw [load_row arg2 harg2 (n := 10 * k + 5) (show k0_off2 ⟨k, hk'⟩ 5#32 = ![0, 10 * k + 5, 0, 0] from k0_off2_eq ⟨k, hk'⟩ 4) (by omega)]
    rw [load_row arg2 harg2 (n := 10 * k + 6) (show k0_off2 ⟨k, hk'⟩ 6#32 = ![0, 10 * k + 6, 0, 0] from k0_off2_eq ⟨k, hk'⟩ 5) (by omega)]
    rw [load_row arg2 harg2 (n := 10 * k + 7) (show k0_off2 ⟨k, hk'⟩ 7#32 = ![0, 10 * k + 7, 0, 0] from k0_off2_eq ⟨k, hk'⟩ 6) (by omega)]
    rw [load_row arg2 harg2 (n := 10 * k + 8) (show k0_off2 ⟨k, hk'⟩ 8#32 = ![0, 10 * k + 8, 0, 0] from k0_off2_eq ⟨k, hk'⟩ 7) (by omega)]
    rw [load_row arg2 harg2 (n := 10 * k + 9) (show k0_off2 ⟨k, hk'⟩ 9#32 = ![0, 10 * k + 9, 0, 0] from k0_off2_eq ⟨k, hk'⟩ 8) (by omega)]
    refine ⟨amax_step x0 k, Fills.cons (fun x => ?_) h8 (fun y hy => ?_), Fills.cons (fun x => ?_) h9 (fun y hy => ?_)⟩
    · rw [emb_pair (n := k) (k0_off3_eq ⟨k, hk'⟩) _ x (by omega)]
      exact hi_store x0 k (by omega) x
    · rcases Nat.lt_succ_iff_lt_or_eq.mp hy with h | h
      · exact Or.inl h
      · refine Or.inr ⟨ix4 0 (y 1) (y 2) (y 3), ?_⟩
        rw [emb_pair (n := k) (k0_off3_eq ⟨k, hk'⟩) _ _ (by omega)]
        exact pair_self y k h
    · rw [emb_pair (n := k) (k0_off3_eq ⟨k, hk'⟩) _ x (by omega)]
      exact lo_store x0 k (by omega) x
    · rcases Nat.lt_succ_iff_lt_or_eq.mp hy with h | h
      · exact Or.inl h
      · refine Or.inr ⟨ix4 0 (y 1) (y 2) (y 3), ?_⟩
        rw [emb_pair (n := k) (k0_off3_eq ⟨k, hk'⟩) _ _ (by omega)]
        exact pair_self y k h
end Cert.KernelIdeal.Gen
end
-- ==== Proof.Loop3.lean ====
/-
  The counting loop, and loop 3: before trip `k` the carried value is the maximum over `k` groups of the deltas' magnitudes, the window of
  codes holds `k` codes and the scratch `k` decoded anchors.
-/
module
public import proofs.«01_k».proof.Proof.Base
public import proofs.«01_k».proof.Proof.Gen.KernelIdeal.Loops
public import proofs.«01_k».proof.Proof.Rows
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
open Cert.Codec
theorem k0_t2_trips : k0_t2_loop.trips = 255 := rfl
theorem k0_t3_trips : k0_t3_loop.trips = 77 := rfl

/-- A fold over the first `n` numbers follows a sequence that its step follows. -/
theorem foldl_finRange {σ : Type} {n : ℕ} (g : Fin n → σ → σ) (P : ℕ → σ) (h : ∀ k : Fin n, g k (P k.val) = P (k.val + 1)) :
    (List.finRange n).foldl (fun acc k => g k acc) (P 0) = P n := by
  induction n with
  | zero => rfl
  | succ n ih =>
    rw [List.finRange_succ_last, List.foldl_append, List.foldl_map]
    have := ih (fun k => g k.castSucc) (fun k => h k.castSucc)
    rw [this]
    exact h (Fin.last n)

/-- The anchors' largest magnitude over 448, the word the kernel counts against. -/
def ratioV (x0 : Vec Ideal S1x768x32x128 .bf16) : FVec Ideal S32x128 .f32 := fun j => amaxN (col x0 (j 0) (j 1)) 77 * Ideal.ofBits FTy.f32 991054117#32

/-- The counting loop computes the counts. -/
theorem loop2 (x0 : Vec Ideal S1x768x32x128 .bf16) :
    Scf.fold (fun a a_1 => k0_pay93 (F := Ideal) (ratioV x0) a a_1) (k0_pay92 0#32) = cntV x0 := by
  rw [Scf.fold_eq]
  have h0 : k0_pay92 0#32 = fun j : S32x128.Idx => cntN (ratioV x0 j) 0 := by
    funext j
    idx_vars j
    unfold_payloads
    pointwise [cntN]
  rw [h0]
  refine (foldl_finRange (fun a a_1 => k0_pay93 (F := Ideal) (ratioV x0) a a_1) (fun k => fun j : S32x128.Idx => cntN (ratioV x0 j) k) (fun k => ?_)).trans rfl
  funext j
  idx_vars j
  unfold_payloads
  pointwise [cntN]

/-- The anchors' ratio from the maximum over 76 groups and the last anchor. -/
theorem ratio_eq (x0 : Vec Ideal S1x768x32x128 .bf16) : k0_pay91 (k0_pay77 (amaxV x0 76) (rowV x0 760)) = ratioV x0 := by
  funext j
  idx_vars j
  unfold_payloads
  pointwise [amaxV, rowV, ratioV]
  simp only [col_par]
  rfl

/-- The code of an anchor, stored. -/
theorem code_store (x0 : Vec Ideal S1x768x32x128 .bf16) (k : ℕ) (hk : k < 77) (y : S1x1x32x128.Idx) :
    k0_pay20 (F := Ideal) (k0_pay96 (cntV x0)) (rowV x0 (10 * k)) y = ACODE x0 (ix4 0 ⟨k, hk⟩ (y 2) (y 3)) := by
  idx_vars y
  unfold_payloads
  pointwise [ACODE, rowV, cntV]
  simp only [col_par]
  rfl

/-- A decoded anchor, stored. -/
theorem deq_store (x0 : Vec Ideal S1x768x32x128 .bf16) (k : ℕ) (hk : k < 77) (y : S1x32x128.Idx) :
    k0_pay22 (F := Ideal) (k0_pay95 (cntV x0)) (k0_pay96 (cntV x0)) (rowV x0 (10 * k)) y = G10 x0 (ix3 ⟨k, hk⟩ (y 1) (y 2)) := by
  idx_vars y
  unfold_payloads
  pointwise [G10, rowV, cntV]
  simp only [col_par]
  rfl

/-- Heads are stored in pairs: the largest token. -/
theorem hi_par (x : S1x768x32x128.Idx → EReal) (l : Fin 128) (t n : ℕ) (h : 2 * (n / 2) < 32) (h' : 2 * (n / 2) + 1 < 32) :
    (if n % 2 = 0 then hiG (col x ⟨2 * (n / 2), h⟩ l) t else hiG (col x ⟨2 * (n / 2) + 1, h'⟩ l) t) = hiG (col x ⟨n, by omega⟩ l) t := by
  split
  · congr 3; omega
  · congr 3; omega

/-- Heads are stored in pairs: the smallest token. -/
theorem lo_par (x : S1x768x32x128.Idx → EReal) (l : Fin 128) (t n : ℕ) (h : 2 * (n / 2) < 32) (h' : 2 * (n / 2) + 1 < 32) :
    (if n % 2 = 0 then loG (col x ⟨2 * (n / 2), h⟩ l) t else loG (col x ⟨2 * (n / 2) + 1, h'⟩ l) t) = loG (col x ⟨n, by omega⟩ l) t := by
  split
  · congr 3; omega
  · congr 3; omega

/-- One more group. -/
theorem dmax_step (x0 : Vec Ideal S1x768x32x128 .bf16) (k : ℕ) (hk : k < 77) :
    k0_pay99 (F := Ideal) (dmaxV x0 k) (k0_pay21 (k0_pay95 (cntV x0)) (k0_pay96 (cntV x0)) (rowV x0 (10 * k)))
        (k0_pay23 (k0_pay95 (cntV x0)) (k0_pay96 (cntV x0)) (rowV x0 (10 * k)) (fun y => G8 x0 (ix4 ⟨k, hk⟩ (y 1) (y 2) (y 3))))
        (k0_pay24 (fun y => G9 x0 (ix4 ⟨k, hk⟩ (y 1) (y 2) (y 3)))) (k0_pay25 (fun y => G9 x0 (ix4 ⟨k, hk⟩ (y 1) (y 2) (y 3)))) = dmaxV x0 (k + 1) := by
  funext j
  idx_vars j
  unfold_payloads
  pointwise [dmaxV, rowV, cntV, G8, G9]
  simp only [col_par, hi_par, lo_par]
  rfl

set_option maxHeartbeats 1000000 in
/-- Before trip `k` of loop 3, wherever the scratches of pairs hold the groups' extrema. -/
theorem loop3 (𝒱 : Variants) (c : Dev nD) (bd : Option 𝒱.V) (i : grid0.Coords) (arg2 : Memref sig .tc .vmem S1x768x32x128 .bf16) (harg2 : arg2.IsWhole) (arg3 : Memref sig .tc .vmem S1x768x32x128 .bf16) (harg3 : arg3.IsWhole) (arg4 : Memref sig .tc .vmem S1x77x32x128 .fp8e4m3) (harg4 : arg4.IsWhole) (arg5 : Memref sig .tc .vmem S1x32x128 .f32) (harg5 : arg5.IsWhole) (arg6 : Memref sig .tc .vmem S1x384x32x128 .i8) (harg6 : arg6.IsWhole) (arg7 : Memref sig .tc .vmem S1x32x128 .f32) (harg7 : arg7.IsWhole) (arg8 : Memref sig .tc .vmem S77x16x2x128 .bf16) (harg8 : arg8.IsWhole) (arg9 : Memref sig .tc .vmem S77x16x2x128 .bf16) (harg9 : arg9.IsWhole) (arg10 : Memref sig .tc .vmem S77x32x128 .f32) (harg10 : arg10.IsWhole) (x0 : Vec Ideal S1x768x32x128 .bf16) (v77 : FVec Ideal S32x128 .f32) (z : BitVec 32)
    (X8 : BufTy.Contents (Elt Ideal) arg8.view.ty) (X9 : BufTy.Contents (Elt Ideal) arg9.view.ty)
    (h8 : arg8.view.read (Elt Ideal) X8 = G8 x0) (h9 : arg9.view.read (Elt Ideal) X9 = G9 x0) (k : ℕ) (hk : k ≤ 77) :
    (st_k0_t3 (F := Ideal) 𝒱 c bd i arg2 harg2 arg3 harg3 arg4 harg4 arg5 harg5 arg6 harg6 arg7 harg7 arg8 harg8 arg9 harg9 arg10 harg10 v77 z (cntV x0) (harg2.unread x0) X8 X9 k0_pay98 k).1 = dmaxV x0 k
    ∧ Fills (ACODE x0) (fun y => (y 1).val < k) (st_k0_t3 (F := Ideal) 𝒱 c bd i arg2 harg2 arg3 harg3 arg4 harg4 arg5 harg5 arg6 harg6 arg7 harg7 arg8 harg8 arg9 harg9 arg10 harg10 v77 z (cntV x0) (harg2.unread x0) X8 X9 k0_pay98 k).2.1
    ∧ Fills (G10 x0) (fun y => (y 0).val < k) (st_k0_t3 (F := Ideal) 𝒱 c bd i arg2 harg2 arg3 harg3 arg4 harg4 arg5 harg5 arg6 harg6 arg7 harg7 arg8 harg8 arg9 harg9 arg10 harg10 v77 z (cntV x0) (harg2.unread x0) X8 X9 k0_pay98 k).2.2 := by
  induction k with
  | zero =>
    refine ⟨?_, Fills.nil (fun y h => Nat.not_lt_zero _ h), Fills.nil (fun y h => Nat.not_lt_zero _ h)⟩
    funext j
    show k0_pay98 (F := Ideal) j = 0
    idx_vars j
    unfold_payloads
    pointwise
  | succ k ih =>
    obtain ⟨hc, hf4, hf10⟩ := ih (by omega)
    have hk' : k < k0_t3_loop.trips := by rw [k0_t3_trips]; omega
    have hs := st_k0_t3_succ (F := Ideal) 𝒱 c bd i arg2 harg2 arg3 harg3 arg4 harg4 arg5 harg5 arg6 harg6 arg7 harg7 arg8 harg8 arg9 harg9 arg10 harg10 v77 z (cntV x0) (harg2.unread x0) X8 X9 k0_pay98 ⟨k, hk'⟩
    rw [hc] at hs
    rw [show k + 1 = (⟨k, hk'⟩ : Fin k0_t3_loop.trips).val + 1 from rfl, hs]
    unfold tripR_k0_t3 tripL_k0_t3 trip_k0_t3
    dsimp only
    sl_unfold_run_names
    rw [load_row arg2 harg2 (n := 10 * k) (k0_off4_eq ⟨k, hk'⟩) (by omega),
      load_pair arg8.view h8 (n := k) (k0_off7_eq ⟨k, hk'⟩) (by omega),
      load_pair arg9.view h9 (n := k) (k0_off7_eq ⟨k, hk'⟩) (by omega)]
    refine ⟨dmax_step x0 k (by omega), Fills.cons (fun x => ?_) hf4 (fun y hy => ?_), Fills.cons (fun x => ?_) hf10 (fun y hy => ?_)⟩
    · rw [emb_row (n := k) (k0_off5_eq ⟨k, hk'⟩) _ x (by omega)]
      exact code_store x0 k (by omega) x
    · rcases Nat.lt_succ_iff_lt_or_eq.mp hy with h | h
      · exact Or.inl h
      · refine Or.inr ⟨ix4 0 0 (y 2) (y 3), ?_⟩
        rw [emb_row (n := k) (k0_off5_eq ⟨k, hk'⟩) _ _ (by omega)]
        exact row_self y k h
    · rw [emb_deq (n := k) (k0_off6_eq ⟨k, hk'⟩) _ x (by omega)]
      exact deq_store x0 k (by omega) x
    · rcases Nat.lt_succ_iff_lt_or_eq.mp hy with h | h
      · exact Or.inl h
      · refine Or.inr ⟨ix3 0 (y 1) (y 2), ?_⟩
        rw [emb_deq (n := k) (k0_off6_eq ⟨k, hk'⟩) _ _ (by omega)]
        exact deq_self y k h
end Cert.KernelIdeal.Gen
end
-- ==== Proof.Loop4.lean ====
/-
  Loop 4: before trip `k` the window of decoded tokens holds the first `10 k` of them and the window of packed bytes the first `5 k`.
-/
module
public import proofs.«01_k».proof.Proof.Base
public import proofs.«01_k».proof.Proof.Gen.KernelIdeal.Loops
public import proofs.«01_k».proof.Proof.Rows
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
open Cert.Codec
theorem k0_t4_trips : k0_t4_loop.trips = 76 := rfl

/-- What a trip stores of the decoded tokens. -/
theorem xhat_stores (x0 : Vec Ideal S1x768x32x128 .bf16) (k : ℕ) (hk : k < 76) (y : S1x1x32x128.Idx) :
    k0_pay28 (F := Ideal) (dscaleV x0) (dinvV x0) (fun y => G10 x0 (ix3 ⟨k, by omega⟩ (y 1) (y 2))) (rowV x0 (10 * k + 0)) y = XHAT x0 (ix4 0 ⟨10 * k + 0, by omega⟩ (y 2) (y 3))
    ∧ k0_pay32 (F := Ideal) (dscaleV x0) (dinvV x0) (k0_pay26 fun y => G10 x0 (ix3 ⟨k, by omega⟩ (y 1) (y 2))) (rowV x0 (10 * k + 1)) y = XHAT x0 (ix4 0 ⟨10 * k + 1, by omega⟩ (y 2) (y 3))
    ∧ k0_pay39 (F := Ideal) (k0_pay37 (dscaleV x0) (dinvV x0) (k0_pay26 fun y => G10 x0 (ix3 ⟨k, by omega⟩ (y 1) (y 2))) (rowV x0 (10 * k + 2))) (k0_pay38 (dscaleV x0) (dinvV x0) (k0_pay26 fun y => G10 x0 (ix3 ⟨k, by omega⟩ (y 1) (y 2))) (rowV x0 (10 * k + 2))) y = XHAT x0 (ix4 0 ⟨10 * k + 2, by omega⟩ (y 2) (y 3))
    ∧ k0_pay45 (F := Ideal) (k0_pay43 (dscaleV x0) (dinvV x0) (k0_pay26 fun y => G10 x0 (ix3 ⟨k, by omega⟩ (y 1) (y 2))) (rowV x0 (10 * k + 3))) (k0_pay44 (dscaleV x0) (dinvV x0) (k0_pay26 fun y => G10 x0 (ix3 ⟨k, by omega⟩ (y 1) (y 2))) (rowV x0 (10 * k + 3))) y = XHAT x0 (ix4 0 ⟨10 * k + 3, by omega⟩ (y 2) (y 3))
    ∧ k0_pay49 (F := Ideal) (dscaleV x0) (dinvV x0) (k0_pay26 fun y => G10 x0 (ix3 ⟨k, by omega⟩ (y 1) (y 2))) (k0_pay47 (k0_pay26 fun y => G10 x0 (ix3 ⟨k, by omega⟩ (y 1) (y 2))) (rowV x0 (10 * k + 4))) y = XHAT x0 (ix4 0 ⟨10 * k + 4, by omega⟩ (y 2) (y 3))
    ∧ k0_pay53 (F := Ideal) (dscaleV x0) (dinvV x0) (k0_pay26 fun y => G10 x0 (ix3 ⟨k, by omega⟩ (y 1) (y 2))) (k0_pay51 (k0_pay26 fun y => G10 x0 (ix3 ⟨k, by omega⟩ (y 1) (y 2))) (rowV x0 (10 * k + 5))) y = XHAT x0 (ix4 0 ⟨10 * k + 5, by omega⟩ (y 2) (y 3))
    ∧ k0_pay56 (F := Ideal) (dscaleV x0) (dinvV x0) (k0_pay26 fun y => G10 x0 (ix3 ⟨k, by omega⟩ (y 1) (y 2))) (rowV x0 (10 * k + 6)) y = XHAT x0 (ix4 0 ⟨10 * k + 6, by omega⟩ (y 2) (y 3))
    ∧ k0_pay59 (F := Ideal) (dscaleV x0) (dinvV x0) (k0_pay26 fun y => G10 x0 (ix3 ⟨k, by omega⟩ (y 1) (y 2))) (rowV x0 (10 * k + 7)) y = XHAT x0 (ix4 0 ⟨10 * k + 7, by omega⟩ (y 2) (y 3))
    ∧ k0_pay67 (F := Ideal) (k0_pay65 (dscaleV x0) (dinvV x0) (k0_pay26 fun y => G10 x0 (ix3 ⟨k, by omega⟩ (y 1) (y 2))) (rowV x0 (10 * k + 8))) (k0_pay66 (dscaleV x0) (dinvV x0) (k0_pay26 fun y => G10 x0 (ix3 ⟨k, by omega⟩ (y 1) (y 2))) (rowV x0 (10 * k + 8))) y = XHAT x0 (ix4 0 ⟨10 * k + 8, by omega⟩ (y 2) (y 3))
    ∧ k0_pay103 (F := Ideal) (k0_pay71 (dscaleV x0) (dinvV x0) (k0_pay26 fun y => G10 x0 (ix3 ⟨k, by omega⟩ (y 1) (y 2))) (rowV x0 (10 * k + 9))) (k0_pay72 (dscaleV x0) (dinvV x0) (k0_pay26 fun y => G10 x0 (ix3 ⟨k, by omega⟩ (y 1) (y 2))) (rowV x0 (10 * k + 9))) y = XHAT x0 (ix4 0 ⟨10 * k + 9, by omega⟩ (y 2) (y 3)) := by
  idx_vars y
  unfold_payloads
  refine ⟨?_, ?_, ?_, ?_, ?_, ?_, ?_, ?_, ?_, ?_⟩ <;>
    (pointwise [XHAT, rowV, G10, dscaleV, dinvV]
     simp only [col_par]
     exact (cell_par ..).trans (xhat_cell (by omega)).symm)

/-- What a trip stores of the packed bytes. -/
theorem packed_stores (x0 : Vec Ideal S1x768x32x128 .bf16) (k : ℕ) (hk : k < 76) (y : S1x1x32x128.Idx) :
    k0_pay34 (F := Ideal) (k0_pay30 (k0_pay29 (dinvV x0) (fun y => G10 x0 (ix3 ⟨k, by omega⟩ (y 1) (y 2))) (rowV x0 (10 * k + 0)))) (k0_pay33 (dinvV x0) (k0_pay26 fun y => G10 x0 (ix3 ⟨k, by omega⟩ (y 1) (y 2))) (rowV x0 (10 * k + 1))) y = PACKED x0 (ix4 0 ⟨5 * k + 0, by omega⟩ (y 2) (y 3))
    ∧ k0_pay46 (F := Ideal) (k0_pay40 (k0_pay35 (dinvV x0) (k0_pay26 fun y => G10 x0 (ix3 ⟨k, by omega⟩ (y 1) (y 2))) (rowV x0 (10 * k + 2)))) (k0_pay41 (dinvV x0) (k0_pay26 fun y => G10 x0 (ix3 ⟨k, by omega⟩ (y 1) (y 2))) (rowV x0 (10 * k + 3))) y = PACKED x0 (ix4 0 ⟨5 * k + 1, by omega⟩ (y 2) (y 3))
    ∧ k0_pay54 (F := Ideal) (dinvV x0) (k0_pay50 (dinvV x0) (k0_pay47 (k0_pay26 fun y => G10 x0 (ix3 ⟨k, by omega⟩ (y 1) (y 2))) (rowV x0 (10 * k + 4)))) (k0_pay51 (k0_pay26 fun y => G10 x0 (ix3 ⟨k, by omega⟩ (y 1) (y 2))) (rowV x0 (10 * k + 5))) y = PACKED x0 (ix4 0 ⟨5 * k + 2, by omega⟩ (y 2) (y 3))
    ∧ k0_pay62 (k0_pay60 (dinvV x0) (k0_pay26 fun y => G10 x0 (ix3 ⟨k, by omega⟩ (y 1) (y 2))) (rowV x0 (10 * k + 7))) (k0_pay61 (k0_pay57 (dinvV x0) (k0_pay26 fun y => G10 x0 (ix3 ⟨k, by omega⟩ (y 1) (y 2))) (rowV x0 (10 * k + 6)))) y = PACKED x0 (ix4 0 ⟨5 * k + 3, by omega⟩ (y 2) (y 3))
    ∧ k0_pay104 (F := Ideal) (k0_pay68 (k0_pay63 (dinvV x0) (k0_pay26 fun y => G10 x0 (ix3 ⟨k, by omega⟩ (y 1) (y 2))) (rowV x0 (10 * k + 8)))) (k0_pay69 (dinvV x0) (k0_pay26 fun y => G10 x0 (ix3 ⟨k, by omega⟩ (y 1) (y 2))) (rowV x0 (10 * k + 9))) y = PACKED x0 (ix4 0 ⟨5 * k + 4, by omega⟩ (y 2) (y 3)) := by
  idx_vars y
  unfold_payloads
  refine ⟨?_, ?_, ?_, ?_, ?_⟩ <;>
    (pointwise [PACKED, rowV, G10, dscaleV, dinvV]
     simp only [col_par]
     exact (byte_cell (by omega) (by omega) (by omega) (by omega)).symm)

set_option maxHeartbeats 1000000 in
/-- Before trip `k` of loop 4, wherever the scratch holds the decoded anchors. -/
theorem loop4 (𝒱 : Variants) (c : Dev nD) (bd : Option 𝒱.V) (i : grid0.Coords) (arg2 : Memref sig .tc .vmem S1x768x32x128 .bf16) (harg2 : arg2.IsWhole) (arg3 : Memref sig .tc .vmem S1x768x32x128 .bf16) (harg3 : arg3.IsWhole) (arg4 : Memref sig .tc .vmem S1x77x32x128 .fp8e4m3) (harg4 : arg4.IsWhole) (arg5 : Memref sig .tc .vmem S1x32x128 .f32) (harg5 : arg5.IsWhole) (arg6 : Memref sig .tc .vmem S1x384x32x128 .i8) (harg6 : arg6.IsWhole) (arg7 : Memref sig .tc .vmem S1x32x128 .f32) (harg7 : arg7.IsWhole) (arg8 : Memref sig .tc .vmem S77x16x2x128 .bf16) (harg8 : arg8.IsWhole) (arg9 : Memref sig .tc .vmem S77x16x2x128 .bf16) (harg9 : arg9.IsWhole) (arg10 : Memref sig .tc .vmem S77x32x128 .f32) (harg10 : arg10.IsWhole) (x0 : Vec Ideal S1x768x32x128 .bf16)
    (X10 : BufTy.Contents (Elt Ideal) arg10.view.ty)
    (h10 : arg10.view.read (Elt Ideal) X10 = G10 x0) (k : ℕ) (hk : k ≤ 76) :
    Fills (XHAT x0) (fun y => (y 1).val < 10 * k) (pb_k0_t4 (F := Ideal) 𝒱 c bd i arg2 harg2 arg3 harg3 arg4 harg4 arg5 harg5 arg6 harg6 arg7 harg7 arg8 harg8 arg9 harg9 arg10 harg10 (dscaleV x0) (dinvV x0) (harg2.unread x0) X10 k).1
    ∧ Fills (PACKED x0) (fun y => (y 1).val < 5 * k) (pb_k0_t4 (F := Ideal) 𝒱 c bd i arg2 harg2 arg3 harg3 arg4 harg4 arg5 harg5 arg6 harg6 arg7 harg7 arg8 harg8 arg9 harg9 arg10 harg10 (dscaleV x0) (dinvV x0) (harg2.unread x0) X10 k).2 := by
  induction k with
  | zero => exact ⟨Fills.nil (fun y h => by omega), Fills.nil (fun y h => by omega)⟩
  | succ k ih =>
    obtain ⟨hf3, hf6⟩ := ih (by omega)
    have hk' : k < k0_t4_loop.trips := by rw [k0_t4_trips]; omega
    have hs := pb_k0_t4_succ (F := Ideal) 𝒱 c bd i arg2 harg2 arg3 harg3 arg4 harg4 arg5 harg5 arg6 harg6 arg7 harg7 arg8 harg8 arg9 harg9 arg10 harg10 (dscaleV x0) (dinvV x0) (harg2.unread x0) X10 ⟨k, hk'⟩
    rw [show k + 1 = (⟨k, hk'⟩ : Fin k0_t4_loop.trips).val + 1 from rfl, hs]
    unfold tripL_k0_t4 trip_k0_t4
    dsimp only
    sl_unfold_run_names
    rw [load_deq arg10.view h10 (n := k) (k0_off8_eq ⟨k, hk'⟩) (by omega)]
    rw [load_row arg2 harg2 (n := 10 * k + 0) (show k0_off9 ⟨k, hk'⟩ 0#32 = ![0, 10 * k + 0, 0, 0] from k0_off9_eq ⟨k, hk'⟩ 0) (by omega)]
    rw [load_row arg2 harg2 (n := 10 * k + 1) (show k0_off10 ⟨k, hk'⟩ 0#32 = ![0, 10 * k + 1, 0, 0] from k0_off10_eq ⟨k, hk'⟩ 0) (by omega)]
    rw [load_row arg2 harg2 (n := 10 * k + 2) (show k0_off9 ⟨k, hk'⟩ 2#32 = ![0, 10 * k + 2, 0, 0] from k0_off9_eq ⟨k, hk'⟩ 1) (by omega)]
    rw [load_row arg2 harg2 (n := 10 * k + 3) (show k0_off10 ⟨k, hk'⟩ 2#32 = ![0, 10 * k + 3, 0, 0] from k0_off10_eq ⟨k, hk'⟩ 1) (by omega)]
    rw [load_row arg2 harg2 (n := 10 * k + 4) (show k0_off9 ⟨k, hk'⟩ 4#32 = ![0, 10 * k + 4, 0, 0] from k0_off9_eq ⟨k, hk'⟩ 2) (by omega)]
    rw [load_row arg2 harg2 (n := 10 * k + 5) (show k0_off10 ⟨k, hk'⟩ 4#32 = ![0, 10 * k + 5, 0, 0] from k0_off10_eq ⟨k, hk'⟩ 2) (by omega)]
    rw [load_row arg2 harg2 (n := 10 * k + 6) (show k0_off9 ⟨k, hk'⟩ 6#32 = ![0, 10 * k + 6, 0, 0] from k0_off9_eq ⟨k, hk'⟩ 3) (by omega)]
    rw [load_row arg2 harg2 (n := 10 * k + 7) (show k0_off10 ⟨k, hk'⟩ 6#32 = ![0, 10 * k + 7, 0, 0] from k0_off10_eq ⟨k, hk'⟩ 3) (by omega)]
    rw [load_row arg2 harg2 (n := 10 * k + 8) (show k0_off9 ⟨k, hk'⟩ 8#32 = ![0, 10 * k + 8, 0, 0] from k0_off9_eq ⟨k, hk'⟩ 4) (by omega)]
    rw [load_row arg2 harg2 (n := 10 * k + 9) (show k0_off10 ⟨k, hk'⟩ 8#32 = ![0, 10 * k + 9, 0, 0] from k0_off10_eq ⟨k, hk'⟩ 4) (by omega)]
    refine ⟨?_, ?_⟩
    · refine Fills.row_cons (n := 10 * k + 9) (c := 10 * k + 10) (show k0_off10 ⟨k, hk'⟩ 8#32 = ![0, 10 * k + 9, 0, 0] from k0_off10_eq ⟨k, hk'⟩ 4) (by omega) (fun x => ?_) (by omega) (Fills.row_cons (n := 10 * k + 8) (c := 10 * k + 9) (show k0_off9 ⟨k, hk'⟩ 8#32 = ![0, 10 * k + 8, 0, 0] from k0_off9_eq ⟨k, hk'⟩ 4) (by omega) (fun x => ?_) (by omega) (Fills.row_cons (n := 10 * k + 7) (c := 10 * k + 8) (show k0_off10 ⟨k, hk'⟩ 6#32 = ![0, 10 * k + 7, 0, 0] from k0_off10_eq ⟨k, hk'⟩ 3) (by omega) (fun x => ?_) (by omega) (Fills.row_cons (n := 10 * k + 6) (c := 10 * k + 7) (show k0_off9 ⟨k, hk'⟩ 6#32 = ![0, 10 * k + 6, 0, 0] from k0_off9_eq ⟨k, hk'⟩ 3) (by omega) (fun x => ?_) (by omega) (Fills.row_cons (n := 10 * k + 5) (c := 10 * k + 6) (show k0_off10 ⟨k, hk'⟩ 4#32 = ![0, 10 * k + 5, 0, 0] from k0_off10_eq ⟨k, hk'⟩ 2) (by omega) (fun x => ?_) (by omega) (Fills.row_cons (n := 10 * k + 4) (c := 10 * k + 5) (show k0_off9 ⟨k, hk'⟩ 4#32 = ![0, 10 * k + 4, 0, 0] from k0_off9_eq ⟨k, hk'⟩ 2) (by omega) (fun x => ?_) (by omega) (Fills.row_cons (n := 10 * k + 3) (c := 10 * k + 4) (show k0_off10 ⟨k, hk'⟩ 2#32 = ![0, 10 * k + 3, 0, 0] from k0_off10_eq ⟨k, hk'⟩ 1) (by omega) (fun x => ?_) (by omega) (Fills.row_cons (n := 10 * k + 2) (c := 10 * k + 3) (show k0_off9 ⟨k, hk'⟩ 2#32 = ![0, 10 * k + 2, 0, 0] from k0_off9_eq ⟨k, hk'⟩ 1) (by omega) (fun x => ?_) (by omega) (Fills.row_cons (n := 10 * k + 1) (c := 10 * k + 2) (show k0_off10 ⟨k, hk'⟩ 0#32 = ![0, 10 * k + 1, 0, 0] from k0_off10_eq ⟨k, hk'⟩ 0) (by omega) (fun x => ?_) (by omega) (Fills.row_cons (n := 10 * k + 0) (c := 10 * k + 1) (show k0_off9 ⟨k, hk'⟩ 0#32 = ![0, 10 * k + 0, 0, 0] from k0_off9_eq ⟨k, hk'⟩ 0) (by omega) (fun x => ?_) (by omega) hf3)))))))))
      · exact (xhat_stores x0 k (by omega) x).2.2.2.2.2.2.2.2.2
      · exact (xhat_stores x0 k (by omega) x).2.2.2.2.2.2.2.2.1
      · exact (xhat_stores x0 k (by omega) x).2.2.2.2.2.2.2.1
      · exact (xhat_stores x0 k (by omega) x).2.2.2.2.2.2.1
      · exact (xhat_stores x0 k (by omega) x).2.2.2.2.2.1
      · exact (xhat_stores x0 k (by omega) x).2.2.2.2.1
      · exact (xhat_stores x0 k (by omega) x).2.2.2.1
      · exact (xhat_stores x0 k (by omega) x).2.2.1
      · exact (xhat_stores x0 k (by omega) x).2.1
      · exact (xhat_stores x0 k (by omega) x).1
    · refine Fills.row_cons (n := 5 * k + 4) (c := 5 * k + 5) (show k0_off11 ⟨k, hk'⟩ 4#32 = ![0, 5 * k + 4, 0, 0] from k0_off11_eq ⟨k, hk'⟩ 4) (by omega) (fun x => ?_) (by omega) (Fills.row_cons (n := 5 * k + 3) (c := 5 * k + 4) (show k0_off11 ⟨k, hk'⟩ 3#32 = ![0, 5 * k + 3, 0, 0] from k0_off11_eq ⟨k, hk'⟩ 3) (by omega) (fun x => ?_) (by omega) (Fills.row_cons (n := 5 * k + 2) (c := 5 * k + 3) (show k0_off11 ⟨k, hk'⟩ 2#32 = ![0, 5 * k + 2, 0, 0] from k0_off11_eq ⟨k, hk'⟩ 2) (by omega) (fun x => ?_) (by omega) (Fills.row_cons (n := 5 * k + 1) (c := 5 * k + 2) (show k0_off11 ⟨k, hk'⟩ 1#32 = ![0, 5 * k + 1, 0, 0] from k0_off11_eq ⟨k, hk'⟩ 1) (by omega) (fun x => ?_) (by omega) (Fills.row_cons (n := 5 * k + 0) (c := 5 * k + 1) (show k0_off11 ⟨k, hk'⟩ 0#32 = ![0, 5 * k + 0, 0, 0] from k0_off11_eq ⟨k, hk'⟩ 0) (by omega) (fun x => ?_) (by omega) hf6))))
      · exact (packed_stores x0 k (by omega) x).2.2.2.2
      · exact (packed_stores x0 k (by omega) x).2.2.2.1
      · exact (packed_stores x0 k (by omega) x).2.2.1
      · exact (packed_stores x0 k (by omega) x).2.1
      · exact (packed_stores x0 k (by omega) x).1
end Cert.KernelIdeal.Gen
end
-- ==== Proof.Tail.lean ====
/-
  The last group, whose seven deltas the body unrolls, and the scales.
-/
module
public import proofs.«01_k».proof.Proof.Base
public import proofs.«01_k».proof.Proof.Gen.KernelIdeal.Loops
public import proofs.«01_k».proof.Proof.Rows
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
open Cert.Codec
set_option maxHeartbeats 1000000 in
/-- What the body stores of the last group's decoded tokens. -/
theorem xhat_tail (x0 : Vec Ideal S1x768x32x128 .bf16) (y : S1x1x32x128.Idx) :
    k0_pay112 (F := Ideal) (k0_pay108 (dscaleV x0) (dinvV x0) (fun y => G10 x0 (ix3 ⟨76, by omega⟩ (y 1) (y 2))) (rowV x0 760)) (k0_pay109 (dscaleV x0) (dinvV x0) (fun y => G10 x0 (ix3 ⟨76, by omega⟩ (y 1) (y 2))) (rowV x0 760)) y = XHAT x0 (ix4 0 ⟨760, by omega⟩ (y 2) (y 3))
    ∧ k0_pay118 (F := Ideal) (k0_pay116 (dscaleV x0) (dinvV x0) (k0_pay105 (fun y => G10 x0 (ix3 ⟨76, by omega⟩ (y 1) (y 2)))) (rowV x0 761)) (k0_pay117 (dscaleV x0) (dinvV x0) (k0_pay105 (fun y => G10 x0 (ix3 ⟨76, by omega⟩ (y 1) (y 2)))) (rowV x0 761)) y = XHAT x0 (ix4 0 ⟨761, by omega⟩ (y 2) (y 3))
    ∧ k0_pay124 (F := Ideal) (k0_pay122 (dscaleV x0) (dinvV x0) (k0_pay105 (fun y => G10 x0 (ix3 ⟨76, by omega⟩ (y 1) (y 2)))) (rowV x0 762)) (k0_pay123 (dscaleV x0) (dinvV x0) (k0_pay105 (fun y => G10 x0 (ix3 ⟨76, by omega⟩ (y 1) (y 2)))) (rowV x0 762)) y = XHAT x0 (ix4 0 ⟨762, by omega⟩ (y 2) (y 3))
    ∧ k0_pay130 (F := Ideal) (k0_pay128 (dscaleV x0) (dinvV x0) (k0_pay105 (fun y => G10 x0 (ix3 ⟨76, by omega⟩ (y 1) (y 2)))) (rowV x0 763)) (k0_pay129 (dscaleV x0) (dinvV x0) (k0_pay105 (fun y => G10 x0 (ix3 ⟨76, by omega⟩ (y 1) (y 2)))) (rowV x0 763)) y = XHAT x0 (ix4 0 ⟨763, by omega⟩ (y 2) (y 3))
    ∧ k0_pay134 (F := Ideal) (dscaleV x0) (k0_pay105 (fun y => G10 x0 (ix3 ⟨76, by omega⟩ (y 1) (y 2)))) (k0_pay132 (dinvV x0) (k0_pay105 (fun y => G10 x0 (ix3 ⟨76, by omega⟩ (y 1) (y 2)))) (rowV x0 764)) (Scalar.ofBits .f32 0xC0E00000#32) y = XHAT x0 (ix4 0 ⟨764, by omega⟩ (y 2) (y 3))
    ∧ k0_pay139 (F := Ideal) (dscaleV x0) (k0_pay105 (fun y => G10 x0 (ix3 ⟨76, by omega⟩ (y 1) (y 2)))) (k0_pay136 (dinvV x0) (k0_pay105 (fun y => G10 x0 (ix3 ⟨76, by omega⟩ (y 1) (y 2)))) (rowV x0 765)) (Scalar.ofBits .f32 0x40E00000#32) k0_pay137 y = XHAT x0 (ix4 0 ⟨765, by omega⟩ (y 2) (y 3))
    ∧ k0_pay142 (F := Ideal) (dscaleV x0) (dinvV x0) (k0_pay105 (fun y => G10 x0 (ix3 ⟨76, by omega⟩ (y 1) (y 2)))) (rowV x0 766) y = XHAT x0 (ix4 0 ⟨766, by omega⟩ (y 2) (y 3))
    ∧ k0_pay146 (F := Ideal) (dscaleV x0) (dinvV x0) (k0_pay105 (fun y => G10 x0 (ix3 ⟨76, by omega⟩ (y 1) (y 2)))) (rowV x0 767) (k0_pay144 (rowV x0 767)) y = XHAT x0 (ix4 0 ⟨767, by omega⟩ (y 2) (y 3)) := by
  idx_vars y
  unfold_payloads
  refine ⟨?_, ?_, ?_, ?_, ?_, ?_, ?_, ?_⟩ <;>
    (pointwise [XHAT, rowV, G10, dscaleV, dinvV]
     simp only [col_par]
     exact (cell_par ..).trans (xhat_cell (by omega)).symm)

set_option maxHeartbeats 1000000 in
/-- What the body stores of the last group's packed bytes. -/
theorem packed_tail (x0 : Vec Ideal S1x768x32x128 .bf16) (y : S1x1x32x128.Idx) :
    k0_pay119 (F := Ideal) (k0_pay113 (k0_pay106 (dinvV x0) (fun y => G10 x0 (ix3 ⟨76, by omega⟩ (y 1) (y 2))) (rowV x0 760))) (k0_pay114 (dinvV x0) (k0_pay105 (fun y => G10 x0 (ix3 ⟨76, by omega⟩ (y 1) (y 2)))) (rowV x0 761)) y = PACKED x0 (ix4 0 ⟨380, by omega⟩ (y 2) (y 3))
    ∧ k0_pay131 (F := Ideal) (k0_pay125 (k0_pay120 (dinvV x0) (k0_pay105 (fun y => G10 x0 (ix3 ⟨76, by omega⟩ (y 1) (y 2)))) (rowV x0 762))) (k0_pay126 (dinvV x0) (k0_pay105 (fun y => G10 x0 (ix3 ⟨76, by omega⟩ (y 1) (y 2)))) (rowV x0 763)) y = PACKED x0 (ix4 0 ⟨381, by omega⟩ (y 2) (y 3))
    ∧ k0_pay140 (F := Ideal) (k0_pay135 (k0_pay132 (dinvV x0) (k0_pay105 (fun y => G10 x0 (ix3 ⟨76, by omega⟩ (y 1) (y 2)))) (rowV x0 764)) (Scalar.ofBits .f32 0xC0E00000#32)) (k0_pay136 (dinvV x0) (k0_pay105 (fun y => G10 x0 (ix3 ⟨76, by omega⟩ (y 1) (y 2)))) (rowV x0 765)) (Scalar.ofBits .f32 0x40E00000#32) k0_pay137 y = PACKED x0 (ix4 0 ⟨382, by omega⟩ (y 2) (y 3))
    ∧ k0_pay1 (k0_pay147 (dinvV x0) (k0_pay105 (fun y => G10 x0 (ix3 ⟨76, by omega⟩ (y 1) (y 2)))) (k0_pay143 (dinvV x0) (k0_pay105 (fun y => G10 x0 (ix3 ⟨76, by omega⟩ (y 1) (y 2)))) (rowV x0 766)) (rowV x0 767) (k0_pay144 (rowV x0 767))) y = PACKED x0 (ix4 0 ⟨383, by omega⟩ (y 2) (y 3)) := by
  idx_vars y
  unfold_payloads
  refine ⟨?_, ?_, ?_, ?_⟩ <;>
    (pointwise [PACKED, rowV, G10, dscaleV, dinvV]
     simp only [col_par]
     exact (byte_cell (by omega) (by omega) (by omega) (by omega)).symm)

/-- The last group's largest token, stored. -/
theorem hi_tail (x0 : Vec Ideal S1x768x32x128 .bf16) (y : S1x16x2x128.Idx) :
    k0_pay89 (F := Ideal) (k0_pay85 (k0_pay79 (rowV x0 760) (rowV x0 761)) (k0_pay81 (rowV x0 762)) (rowV x0 763) (rowV x0 764) (rowV x0 765)) (rowV x0 766) (rowV x0 767) y
      = G8 x0 (ix4 ⟨76, by omega⟩ (y 1) (y 2) (y 3)) := by
  idx_vars y
  unfold_payloads
  pointwise [G8, rowV]
  rcases Nat.mod_two_eq_zero_or_one y2.val with h | h
  · simp only [h, col_par, if_true, show y2.val = 0 by omega, Nat.add_zero, hiG_last, hiN]
  · simp only [h, col_par, if_false, Nat.one_ne_zero, show y2.val = 1 by omega, Nat.one_mod, hiG_last, hiN]

/-- The last group's smallest token, stored. -/
theorem lo_tail (x0 : Vec Ideal S1x768x32x128 .bf16) (y : S1x16x2x128.Idx) :
    k0_pay90 (F := Ideal) (k0_pay86 (k0_pay80 (rowV x0 760) (rowV x0 761)) (k0_pay81 (rowV x0 762)) (rowV x0 763) (rowV x0 764) (rowV x0 765)) (rowV x0 766) (rowV x0 767) y
      = G9 x0 (ix4 ⟨76, by omega⟩ (y 1) (y 2) (y 3)) := by
  idx_vars y
  unfold_payloads
  pointwise [G9, rowV]
  rcases Nat.mod_two_eq_zero_or_one y2.val with h | h
  · simp only [h, col_par, if_true, show y2.val = 0 by omega, Nat.add_zero, loG_last, loN]
  · simp only [h, col_par, if_false, Nat.one_ne_zero, show y2.val = 1 by omega, Nat.one_mod, loG_last, loN]

/-- The deltas' scales from their largest magnitudes. -/
theorem dscale_eq (x0 : Vec Ideal S1x768x32x128 .bf16) : k0_pay100 (F := Ideal) (dmaxV x0 77) = dscaleV x0 := by
  funext j
  idx_vars j
  unfold_payloads
  pointwise [dmaxV, dscaleV, dscaleX, dscaleK]

/-- Their inverses. -/
theorem dinv_eq (x0 : Vec Ideal S1x768x32x128 .bf16) : k0_pay101 (F := Ideal) (dmaxV x0 77) = dinvV x0 := by
  funext j
  idx_vars j
  unfold_payloads
  pointwise [dmaxV, dinvV, dscaleX, dscaleK]

/-- The anchors' scales, stored. -/
theorem ascale_store (x0 : Vec Ideal S1x768x32x128 .bf16) (y : S1x32x128.Idx) : k0_pay97 (F := Ideal) (cntV x0) y = ASCALE x0 y := by
  idx_vars y
  unfold_payloads
  pointwise [ASCALE, cntV]
  rfl

/-- The deltas' scales, stored. -/
theorem dscale_store (x0 : Vec Ideal S1x768x32x128 .bf16) (y : S1x32x128.Idx) : k0_pay102 (F := Ideal) (dscaleV x0) y = DSCALE x0 y := by
  idx_vars y
  unfold_payloads
  pointwise [DSCALE, dscaleV]
end Cert.KernelIdeal.Gen
end
-- ==== Proof.Body.lean ====
/-
  The body of the kernel, run on one block: from the block's columns it leaves each column's codes, scales, packed bytes and decoded tokens.
-/
module
public import proofs.«01_k».proof.Proof.Base
public import proofs.«01_k».proof.Proof.Gen.KernelIdeal.Loops
public import proofs.«01_k».proof.Proof.Loop1
public import proofs.«01_k».proof.Proof.Loop3
public import proofs.«01_k».proof.Proof.Loop4
public import proofs.«01_k».proof.Proof.Tail
public import Idealize.ShloMosaic.Lib.Pointwise
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
open Cert.Codec

/-- A buffer held with whatever contents. -/
theorem some_owns {c : Dev nD} {sp : Space} {s : Shape} {e : EltTy} (r : Memref sig .tc sp s e) {X : BufTy.Contents (Elt Ideal) r.view.ty} :
    (iprop(r.view.loc (c : Thread nD τ) ↦[r.view.set]{fullShare} X) : sProp 𝕄) ⊢ iprop(∃ d, ∃ f, ⌜r.view.read (Elt Ideal) f = d⌝ ∗ (r.view.loc (c : Thread nD τ) ↦[r.view.set]{fullShare} f)) := by
  iintro H
  iexists (r.view.read (Elt Ideal) X); iexists X; isplitl []
  · ipureintro; rfl
  · iexact H

/-- The whole of a window of scales. -/
theorem emb_scale (inb : ∀ a, (![0, 0, 0] : Fin 3 → ℕ) a + S1x32x128.size a ≤ S1x32x128.size a) (x : S1x32x128.Idx) :
    (Rect.unit (s := S1x32x128) ![0, 0, 0] S1x32x128.size inb).emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

set_option maxHeartbeats 4000000 in
/-- The body from a block `x0` leaves the five blocks of results. -/
theorem body_triple (c : Dev nD) (i : grid0.Coords) (arg2 : Memref sig .tc .vmem S1x768x32x128 .bf16) (harg2 : arg2.IsWhole) (arg3 : Memref sig .tc .vmem S1x768x32x128 .bf16) (harg3 : arg3.IsWhole) (arg4 : Memref sig .tc .vmem S1x77x32x128 .fp8e4m3) (harg4 : arg4.IsWhole) (arg5 : Memref sig .tc .vmem S1x32x128 .f32) (harg5 : arg5.IsWhole) (arg6 : Memref sig .tc .vmem S1x384x32x128 .i8) (harg6 : arg6.IsWhole) (arg7 : Memref sig .tc .vmem S1x32x128 .f32) (harg7 : arg7.IsWhole) (arg8 : Memref sig .tc .vmem S77x16x2x128 .bf16) (harg8 : arg8.IsWhole) (arg9 : Memref sig .tc .vmem S77x16x2x128 .bf16) (harg9 : arg9.IsWhole) (arg10 : Memref sig .tc .vmem S77x32x128 .f32) (harg10 : arg10.IsWhole) (x0 : Vec Ideal S1x768x32x128 .bf16) :
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare (XHAT x0) ∗ owns (c : Thread nD τ) arg4 fullShare (ACODE x0) ∗ owns (c : Thread nD τ) arg5 fullShare (ASCALE x0) ∗ owns (c : Thread nD τ) arg6 fullShare (PACKED x0) ∗ owns (c : Thread nD τ) arg7 fullShare (DSCALE x0) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_anchor_delta_codec i arg2 harg2 arg3 harg3 arg4 harg4 arg5 harg5 arg6 harg6 arg7 harg7 arg8 harg8 arg9 harg9 arg10 harg10) K := by
    intro E K
    simp only [cc0_anchor_delta_codec_eq_skeleton]; unfold cc0_anchor_delta_codec_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg2.eq_unread hf0
    sl_exec
    sl_step
    have l1 := loop1 Variants.none c none i arg2 harg2 arg3 harg3 arg4 harg4 arg5 harg5 arg6 harg6 arg7 harg7 arg8 harg8 arg9 harg9 arg10 harg10 x0 76 (le_refl _)
    have erow : ∀ (n : ℕ) (hn : n < 768) (inb : ∀ a, (![0, n, 0, 0] : Fin 4 → ℕ) a + S1x1x32x128.size a ≤ S1x768x32x128.size a),
        View.readAt (Elt Ideal) arg2.view (Rect.unit (s := S1x768x32x128) ![0, n, 0, 0] S1x1x32x128.size inb).toLoadRect (harg2.unread x0) = rowV x0 n :=
      fun n hn inb => load_row arg2 harg2 rfl hn inb
    have e6 : body_triple.sl.r_6 c i arg2 harg2 arg3 harg3 arg4 harg4 arg5 harg5 arg6 harg6 arg7 harg7 arg8 harg8 arg9 harg9 arg10 harg10 x0 = ratioV x0 := by
      delta body_triple.sl.r_6 body_triple.sl.r
      rw [erow 760 (by omega)]
      exact (congrArg (fun a => k0_pay91 (k0_pay77 a (rowV x0 760))) l1.1).trans (ratio_eq x0)
    have e7 : body_triple.sl.r_7 c i arg2 harg2 arg3 harg3 arg4 harg4 arg5 harg5 arg6 harg6 arg7 harg7 arg8 harg8 arg9 harg9 arg10 harg10 x0 = cntV x0 := by
      delta body_triple.sl.r_7
      rw [e6]
      exact loop2 x0
    have e4 : body_triple.sl.r_4 arg2 harg2 x0 = k0_pay85 (F := Ideal) (k0_pay79 (rowV x0 760) (rowV x0 761)) (k0_pay81 (rowV x0 762)) (rowV x0 763) (rowV x0 764) (rowV x0 765) := by
      delta body_triple.sl.r_4 body_triple.sl.r_1 body_triple.sl.r_3
      rw [erow 760 (by omega), erow 761 (by omega), erow 762 (by omega), erow 763 (by omega), erow 764 (by omega), erow 765 (by omega)]
    have e5 : body_triple.sl.r_5 arg2 harg2 x0 = k0_pay86 (F := Ideal) (k0_pay80 (rowV x0 760) (rowV x0 761)) (k0_pay81 (rowV x0 762)) (rowV x0 763) (rowV x0 764) (rowV x0 765) := by
      delta body_triple.sl.r_5 body_triple.sl.r_2 body_triple.sl.r_3
      rw [erow 760 (by omega), erow 761 (by omega), erow 762 (by omega), erow 763 (by omega), erow 764 (by omega), erow 765 (by omega)]
    have h8 : Fills (G8 x0) (fun _ => True) (⟨Rect.unit (s := S77x16x2x128) ![76, 0, 0, 0] S1x16x2x128.size inb_S77x16x2x128_S1x16x2x128_76_0_0_0, k0_pay89 (F := Ideal) (body_triple.sl.r_4 arg2 harg2 x0) (rowV x0 766) (rowV x0 767)⟩ :: (st_k0_t1 (F := Ideal) Variants.none c none i arg2 harg2 arg3 harg3 arg4 harg4 arg5 harg5 arg6 harg6 arg7 harg7 arg8 harg8 arg9 harg9 arg10 harg10 (harg2.unread x0) k0_pay73 (Scf.trips k0_t1_loop.lb k0_t1_loop.ub k0_t1_loop.st)).2.1) := by
      refine Fills.cons (fun x => ?_) l1.2.1 (fun y _ => ?_)
      · rw [emb_pair (n := 76) rfl _ x (by omega), e4]
        exact hi_tail x0 x
      · rcases Nat.lt_or_ge (y 0).val 76 with h | h
        · exact Or.inl h
        · refine Or.inr ⟨ix4 0 (y 1) (y 2) (y 3), ?_⟩
          rw [emb_pair (n := 76) rfl _ _ (by omega)]
          exact pair_self y 76 (by have := (y 0).isLt; change _ < 77 at this; omega)
    have h9 : Fills (G9 x0) (fun _ => True) (⟨Rect.unit (s := S77x16x2x128) ![76, 0, 0, 0] S1x16x2x128.size inb_S77x16x2x128_S1x16x2x128_76_0_0_0, k0_pay90 (F := Ideal) (body_triple.sl.r_5 arg2 harg2 x0) (rowV x0 766) (rowV x0 767)⟩ :: (st_k0_t1 (F := Ideal) Variants.none c none i arg2 harg2 arg3 harg3 arg4 harg4 arg5 harg5 arg6 harg6 arg7 harg7 arg8 harg8 arg9 harg9 arg10 harg10 (harg2.unread x0) k0_pay73 (Scf.trips k0_t1_loop.lb k0_t1_loop.ub k0_t1_loop.st)).2.2) := by
      refine Fills.cons (fun x => ?_) l1.2.2 (fun y _ => ?_)
      · rw [emb_pair (n := 76) rfl _ x (by omega), e5]
        exact lo_tail x0 x
      · rcases Nat.lt_or_ge (y 0).val 76 with h | h
        · exact Or.inl h
        · refine Or.inr ⟨ix4 0 (y 1) (y 2) (y 3), ?_⟩
          rw [emb_pair (n := 76) rfl _ _ (by omega)]
          exact pair_self y 76 (by have := (y 0).isLt; change _ < 77 at this; omega)
    have r8 := funext fun y => h8.read arg8.view fs0 y trivial
    have r9 := funext fun y => h9.read arg9.view fs1 y trivial
    obtain ⟨X8, hX8⟩ : ∃ X, X = arg8.view.writes (Elt Ideal) fs0 (⟨Rect.unit (s := S77x16x2x128) ![76, 0, 0, 0] S1x16x2x128.size inb_S77x16x2x128_S1x16x2x128_76_0_0_0, k0_pay89 (F := Ideal) (body_triple.sl.r_4 arg2 harg2 x0) (rowV x0 766) (rowV x0 767)⟩ :: (st_k0_t1 (F := Ideal) Variants.none c none i arg2 harg2 arg3 harg3 arg4 harg4 arg5 harg5 arg6 harg6 arg7 harg7 arg8 harg8 arg9 harg9 arg10 harg10 (harg2.unread x0) k0_pay73 (Scf.trips k0_t1_loop.lb k0_t1_loop.ub k0_t1_loop.st)).2.1) := ⟨_, rfl⟩
    obtain ⟨X9, hX9⟩ : ∃ X, X = arg9.view.writes (Elt Ideal) fs1 (⟨Rect.unit (s := S77x16x2x128) ![76, 0, 0, 0] S1x16x2x128.size inb_S77x16x2x128_S1x16x2x128_76_0_0_0, k0_pay90 (F := Ideal) (body_triple.sl.r_5 arg2 harg2 x0) (rowV x0 766) (rowV x0 767)⟩ :: (st_k0_t1 (F := Ideal) Variants.none c none i arg2 harg2 arg3 harg3 arg4 harg4 arg5 harg5 arg6 harg6 arg7 harg7 arg8 harg8 arg9 harg9 arg10 harg10 (harg2.unread x0) k0_pay73 (Scf.trips k0_t1_loop.lb k0_t1_loop.ub k0_t1_loop.st)).2.2) := ⟨_, rfl⟩
    rw [← hX8] at r8
    rw [← hX9] at r9
    have l3 := loop3 Variants.none c none i arg2 harg2 arg3 harg3 arg4 harg4 arg5 harg5 arg6 harg6 arg7 harg7 arg8 harg8 arg9 harg9 arg10 harg10 x0 (body_triple.sl.r_6 c i arg2 harg2 arg3 harg3 arg4 harg4 arg5 harg5 arg6 harg6 arg7 harg7 arg8 harg8 arg9 harg9 arg10 harg10 x0) 0#32 X8 X9 r8 r9 77 (le_refl _)
    have e8 : body_triple.sl.r_8 c i arg2 harg2 arg3 harg3 arg4 harg4 arg5 harg5 arg6 harg6 arg7 harg7 arg8 harg8 arg9 harg9 arg10 harg10 x0 fs0 fs1 = dscaleV x0 := by
      delta body_triple.sl.r_8
      rw [erow 766 (by omega), erow 767 (by omega), ← hX8, ← hX9, e7]
      exact (congrArg (fun a => k0_pay100 (F := Ideal) a) l3.1).trans (dscale_eq x0)
    have e9 : body_triple.sl.r_9 c i arg2 harg2 arg3 harg3 arg4 harg4 arg5 harg5 arg6 harg6 arg7 harg7 arg8 harg8 arg9 harg9 arg10 harg10 x0 fs0 fs1 = dinvV x0 := by
      delta body_triple.sl.r_9
      rw [erow 766 (by omega), erow 767 (by omega), ← hX8, ← hX9, e7]
      exact (congrArg (fun a => k0_pay101 (F := Ideal) a) l3.1).trans (dinv_eq x0)
    have r10 : View.read (Elt Ideal) arg10.view (arg10.view.writes (Elt Ideal) fs2 (st_k0_t3 (F := Ideal) Variants.none c none i arg2 harg2 arg3 harg3 arg4 harg4 arg5 harg5 arg6 harg6 arg7 harg7 arg8 harg8 arg9 harg9 arg10 harg10 (body_triple.sl.r_6 c i arg2 harg2 arg3 harg3 arg4 harg4 arg5 harg5 arg6 harg6 arg7 harg7 arg8 harg8 arg9 harg9 arg10 harg10 x0) 0#32 (cntV x0) (harg2.unread x0) X8 X9 k0_pay98 (Scf.trips k0_t3_loop.lb k0_t3_loop.ub k0_t3_loop.st)).2.2) = G10 x0 :=
      funext fun y => l3.2.2.read arg10.view fs2 y (by have := (y 0).isLt; change _ < 77 at this; exact this)
    have e115 : body_triple.sl.v115 c i arg2 harg2 arg3 harg3 arg4 harg4 arg5 harg5 arg6 harg6 arg7 harg7 arg8 harg8 arg9 harg9 arg10 harg10 x0 fs0 fs1 fs2 = fun y => G10 x0 (ix3 ⟨76, by omega⟩ (y 1) (y 2)) := by
      delta body_triple.sl.v115
      simp only []
      rw [erow 766 (by omega), erow 767 (by omega), ← hX8, ← hX9, e7]
      exact load_deq arg10.view r10 (n := 76) rfl (by omega) _
    have l4 := loop4 Variants.none c none i arg2 harg2 arg3 harg3 arg4 harg4 arg5 harg5 arg6 harg6 arg7 harg7 arg8 harg8 arg9 harg9 arg10 harg10 x0 _ r10 76 (le_refl _)
    iapply Hk
    isplitl [H0]
    · iexists _; isplitl []
      · ipureintro; exact hf0
      · iexact H0
    isplitl [H1]
    · iexists _; isplitl []
      rotate_left
      · iexact H1
      ipureintro
      delta body_triple.sl.r_10 body_triple.sl.r_11 body_triple.sl.r_12 body_triple.sl.r_13 body_triple.sl.r_16 body_triple.sl.r_17 body_triple.sl.r_18 body_triple.sl.r_19 body_triple.sl.r_20 body_triple.sl.r_21 body_triple.sl.r_22 body_triple.sl.r_23 body_triple.sl.r_24 body_triple.sl.r_25 body_triple.sl.r_26 body_triple.sl.r_27 body_triple.sl.r_28 body_triple.sl.r_29 body_triple.sl.r_30 body_triple.sl.r_31 body_triple.sl.r_32 body_triple.sl.r_33
      rw [erow 760 (by omega), erow 761 (by omega), erow 762 (by omega), erow 763 (by omega), erow 764 (by omega), erow 765 (by omega), erow 766 (by omega), erow 767 (by omega), ← hX8, ← hX9, e7, e8, e9, e115]
      refine funext fun y => Fills.read (G := XHAT x0) (cov := fun y => (y 1).val < 768) ?_ arg3.view f1 y (y 1).isLt
      refine Fills.row_cons (n := 767) (c := 768) rfl (by omega) (fun x => ?_) rfl (Fills.row_cons (n := 766) (c := 767) rfl (by omega) (fun x => ?_) rfl (Fills.row_cons (n := 765) (c := 766) rfl (by omega) (fun x => ?_) rfl (Fills.row_cons (n := 764) (c := 765) rfl (by omega) (fun x => ?_) rfl (Fills.row_cons (n := 763) (c := 764) rfl (by omega) (fun x => ?_) rfl (Fills.row_cons (n := 762) (c := 763) rfl (by omega) (fun x => ?_) rfl (Fills.row_cons (n := 761) (c := 762) rfl (by omega) (fun x => ?_) rfl (Fills.row_cons (n := 760) (c := 761) rfl (by omega) (fun x => ?_) rfl (l4.1))))))))
      · exact (xhat_tail x0 x).2.2.2.2.2.2.2
      · exact (xhat_tail x0 x).2.2.2.2.2.2.1
      · exact (xhat_tail x0 x).2.2.2.2.2.1
      · exact (xhat_tail x0 x).2.2.2.2.1
      · exact (xhat_tail x0 x).2.2.2.1
      · exact (xhat_tail x0 x).2.2.1
      · exact (xhat_tail x0 x).2.1
      · exact (xhat_tail x0 x).1
    isplitl [H2]
    · iexists _; isplitl []
      rotate_left
      · iexact H2
      ipureintro
      rw [erow 766 (by omega), erow 767 (by omega), ← hX8, ← hX9, e7]
      exact funext fun y => l3.2.1.read arg4.view f2 y (y 1).isLt
    isplitl [H3]
    · iexists _; isplitl []
      rotate_left
      · iexact H3
      ipureintro
      delta body_triple.sl.H3_1
      rw [e7]
      refine funext fun y => Fills.read (G := ASCALE x0) (cov := fun _ => True) ?_ arg5.view _ y trivial
      refine Fills.cons (cov := fun _ => False) (fun x => ?_) (Fills.nil (fun _ h => h)) (fun y _ => Or.inr ⟨y, ?_⟩)
      · rw [emb_scale]
        exact ascale_store x0 x
      · exact emb_scale inb_S1x32x128_S1x32x128_0_0_0 y
    isplitl [H4]
    · iexists _; isplitl []
      rotate_left
      · iexact H4
      ipureintro
      delta body_triple.sl.r_10 body_triple.sl.r_11 body_triple.sl.r_12 body_triple.sl.r_13 body_triple.sl.r_16 body_triple.sl.r_17 body_triple.sl.r_18 body_triple.sl.r_19 body_triple.sl.r_20 body_triple.sl.r_21 body_triple.sl.r_22 body_triple.sl.r_23 body_triple.sl.r_24 body_triple.sl.r_25 body_triple.sl.r_26 body_triple.sl.r_27 body_triple.sl.r_28 body_triple.sl.r_29 body_triple.sl.r_30 body_triple.sl.r_31 body_triple.sl.r_32 body_triple.sl.r_33
      rw [erow 760 (by omega), erow 761 (by omega), erow 762 (by omega), erow 763 (by omega), erow 764 (by omega), erow 765 (by omega), erow 766 (by omega), erow 767 (by omega), ← hX8, ← hX9, e7, e8, e9, e115]
      refine funext fun y => Fills.read (G := PACKED x0) (cov := fun y => (y 1).val < 384) ?_ arg6.view f4 y (y 1).isLt
      refine Fills.row_cons (n := 383) (c := 384) rfl (by omega) (fun x => ?_) rfl (Fills.row_cons (n := 382) (c := 383) rfl (by omega) (fun x => ?_) rfl (Fills.row_cons (n := 381) (c := 382) rfl (by omega) (fun x => ?_) rfl (Fills.row_cons (n := 380) (c := 381) rfl (by omega) (fun x => ?_) rfl (l4.2))))
      · exact (packed_tail x0 x).2.2.2
      · exact (packed_tail x0 x).2.2.1
      · exact (packed_tail x0 x).2.1
      · exact (packed_tail x0 x).1
    isplitl [H5]
    · iexists _; isplitl []
      rotate_left
      · iexact H5
      ipureintro
      delta body_triple.sl.H5_1
      rw [e8]
      refine funext fun y => Fills.read (G := DSCALE x0) (cov := fun _ => True) ?_ arg7.view _ y trivial
      refine Fills.cons (cov := fun _ => False) (fun x => ?_) (Fills.nil (fun _ h => h)) (fun y _ => Or.inr ⟨y, ?_⟩)
      · rw [emb_scale]
        exact dscale_store x0 x
      · exact emb_scale inb_S1x32x128_S1x32x128_0_0_0 y
    isplitl [HS0]
    · iapply (some_owns (c := c) arg8); iexact HS0
    isplitl [HS1]
    · iapply (some_owns (c := c) arg9); iexact HS1
    iapply (some_owns (c := c) arg10); iexact HS2
end Cert.KernelIdeal.Gen
end
-- ==== Proof.RefForms.lean ====
/-
  The reference's codec along one column `X` (the tokens of one batch, head and dim): what each result holds, with the reductions as folds.
-/
module
public import proofs.«01_k».proof.Proof.Codec
public import Idealize.ShloMosaic.Lib.Pointwise
@[expose] public section
noncomputable section
namespace Cert.Codec
open Idealize.ShloMosaic

/-- The column of the argument `k` at batch `b`, head `h` and dim `l`. -/
def colA (k : (⟨4, ![2, 768, 64, 128]⟩ : Shape).Idx → EReal) (b : Fin 2) (h : Fin 64) (l : Fin 128) (t : ℕ) : EReal :=
  if ht : t < 768 then k (ix4 b ⟨t, ht⟩ h l) else 0

variable (X : ℕ → EReal)

/-- The anchors' largest magnitude. -/
def amaxR : EReal :=
  Finset.univ.fold max (Ideal.ofBits .f32 4286578688#32) fun g : Fin 77 => mag (X (10 * g.val))

/-- The exponent of the anchors' scale: one more than the whole part of the binary logarithm of the magnitude over 448; 0 for magnitude 0. -/
def expR (a : EReal) : EReal :=
  if a = 0 then 0
  else Ideal.liftRound Int.floor
    (Ideal.div (Ideal.log (a * Ideal.ofBits .f32 991054117#32)) (Ideal.log (Ideal.ofBits .f32 1073741824#32))) + 1

/-- The anchors' scale. -/
def scaleR : EReal := Ideal.exp2 (expR (amaxR X))

/-- The code of anchor `g`. -/
def codeR (g : ℕ) : EReal := codeK (Ideal.exp2 (0 - expR (amaxR X))) (X (10 * g))

/-- Anchor `g` decoded. -/
def deqR (g : ℕ) : EReal := codeR X g * scaleR X

/-- The largest magnitude of the column's deltas. -/
def dmaxR : EReal :=
  Finset.univ.fold max (Ideal.ofBits .f32 4286578688#32) fun t : Fin 768 => mag (X t.val - deqR X (t.val / 10))

/-- The delta code of token `t`, a word of 8 bits. -/
def qR (t : ℕ) : BitVec 8 :=
  FloatOps.fptosi (F := Ideal) (φ := .f32) 8 (min (Ideal.ofBits FTy.f32 1088421888#32) (max (Ideal.ofBits FTy.f32 3235905536#32)
    (Ideal.liftRound Ideal.roundHalfEven (Ideal.div (X t - deqR X (t / 10)) (dscaleK (dmaxR X))))))

/-- Token `t` decoded. -/
def xhatR (t : ℕ) : EReal :=
  deqR X (t / 10) + FloatOps.sitofp (F := Ideal) FTy.f32 (qR X t) * dscaleK (dmaxR X)

/-- The byte of tokens `2 p` and `2 p + 1`. -/
def byteR (p : ℕ) : BitVec 8 :=
  BitVec.setWidth 8 (IntOp.ori (IntOp.andi (BitVec.signExtend 32 (qR X (2 * p))) 15#32)
    (IntOp.shli ArithUnit.vector (IntOp.andi (BitVec.signExtend 32 (qR X (2 * p + 1))) 15#32) 4#32))

end Cert.Codec
end
-- ==== Proof.Run.lean ====
/-
  The kernel's run, both calls on their whole arguments: what each result array holds, entry by entry, of the column of the argument it comes from.
-/
module
public import proofs.«01_k».proof.Proof.TwoCalls
public import proofs.«01_k».proof.Proof.Body
public import proofs.«01_k».proof.Proof.RefForms
public import proofs.«01_k».proof.Proof.Gen.KernelIdeal.Regions
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ
open Cert.Codec

variable (m : (ℓ : Loc nD τ sig) → Buf (Elt Ideal) ℓ) (ρ : Dev nD → PrngReg)

/-- A core's buffers as launched. -/
abbrev V (c : Dev nD) (b : Ref sig .tc) : Buf (Elt Ideal) ((c : Thread nD τ).loc b) := m ((c : Thread nD τ).loc b)

namespace Call0

/-- Window `w`'s block at point `t`, read off its array as launched. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

theorem before0_0_of {c : Dev nD} (dat : Dat τ (Elt Ideal) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data. After the body at a point, each result's buffer holds what the codec leaves of the point's block. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => XHAT (iblk m c 0 t)
    | ⟨2, _⟩ => ACODE (iblk m c 0 t)
    | ⟨3, _⟩ => ASCALE (iblk m c 0 t)
    | ⟨4, _⟩ => PACKED (iblk m c 0 t)
    | ⟨5, _⟩ => DSCALE (iblk m c 0 t)
  Φ _ := Pipeline.ΦA spec0 c
  q _ := fullShare
  owed _ := 0

theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]

theorem after0_1 (c : Dev nD) (t : Fin cfg0.N) : (dat m c).after 1 t = XHAT (iblk m c 0 t) := by dsimp only [dat]
theorem after0_2 (c : Dev nD) (t : Fin cfg0.N) : (dat m c).after 2 t = ACODE (iblk m c 0 t) := by dsimp only [dat]
theorem after0_3 (c : Dev nD) (t : Fin cfg0.N) : (dat m c).after 3 t = ASCALE (iblk m c 0 t) := by dsimp only [dat]
theorem after0_4 (c : Dev nD) (t : Fin cfg0.N) : (dat m c).after 4 t = PACKED (iblk m c 0 t) := by dsimp only [dat]
theorem after0_5 (c : Dev nD) (t : Fin cfg0.N) : (dat m c).after 5 t = DSCALE (iblk m c 0 t) := by dsimp only [dat]

theorem before0_0 (c : Dev nD) (t : Fin cfg0.N) (d) : (dat m c).before 0 t d = iblk m c 0 t :=
  before0_0_of m (dat m c) (A_eq m c 0) (after0_0 m c) t d

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d)))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t))

/-- The scratch buffers, this call's and the other's, the other call's staging buffers and the generator register are what the invariant holds. -/
theorem inv_eq (c : Dev nD) (t : Fin (cfg0.N + 1)) : (dat m c).Φ t
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ f : Buf (Elt Ideal) ((c : Thread nD τ).loc cc1_stg0_0), ((c : Thread nD τ).loc cc1_stg0_0) ↦{fullShare} f) ∗ (∃ f : Buf (Elt Ideal) ((c : Thread nD τ).loc cc1_stg0_1), ((c : Thread nD τ).loc cc1_stg0_1) ↦{fullShare} f) ∗ (∃ f : Buf (Elt Ideal) ((c : Thread nD τ).loc cc1_stg1_0), ((c : Thread nD τ).loc cc1_stg1_0) ↦{fullShare} f) ∗ (∃ f : Buf (Elt Ideal) ((c : Thread nD τ).loc cc1_stg1_1), ((c : Thread nD τ).loc cc1_stg1_1) ↦{fullShare} f) ∗ (∃ f : Buf (Elt Ideal) ((c : Thread nD τ).loc cc1_stg2_0), ((c : Thread nD τ).loc cc1_stg2_0) ↦{fullShare} f) ∗ (∃ f : Buf (Elt Ideal) ((c : Thread nD τ).loc cc1_stg2_1), ((c : Thread nD τ).loc cc1_stg2_1) ↦{fullShare} f) ∗ (∃ f : Buf (Elt Ideal) ((c : Thread nD τ).loc cc1_stg3_0), ((c : Thread nD τ).loc cc1_stg3_0) ↦{fullShare} f) ∗ (∃ f : Buf (Elt Ideal) ((c : Thread nD τ).loc cc1_stg3_1), ((c : Thread nD τ).loc cc1_stg3_1) ↦{fullShare} f) ∗ (∃ f : Buf (Elt Ideal) ((c : Thread nD τ).loc cc1_stg4_0), ((c : Thread nD τ).loc cc1_stg4_0) ↦{fullShare} f) ∗ (∃ f : Buf (Elt Ideal) ((c : Thread nD τ).loc cc1_stg4_1), ((c : Thread nD τ).loc cc1_stg4_1) ↦{fullShare} f) ∗ (∃ f : Buf (Elt Ideal) ((c : Thread nD τ).loc cc1_stg5_0), ((c : Thread nD τ).loc cc1_stg5_0) ↦{fullShare} f) ∗ (∃ f : Buf (Elt Ideal) ((c : Thread nD τ).loc cc1_stg5_1), ((c : Thread nD τ).loc cc1_stg5_1) ↦{fullShare} f) ∗ (∃ f : Buf (Elt Ideal) ((c : Thread nD τ).loc cc1_scratch0), ((c : Thread nD τ).loc cc1_scratch0) ↦{fullShare} f) ∗ (∃ f : Buf (Elt Ideal) ((c : Thread nD τ).loc cc1_scratch1), ((c : Thread nD τ).loc cc1_scratch1) ↦{fullShare} f) ∗ (∃ f : Buf (Elt Ideal) ((c : Thread nD τ).loc cc1_scratch2), ((c : Thread nD τ).loc cc1_scratch2) ↦{fullShare} f))
        ∗ (∃ r, prngReg c r)) := by
  show Pipeline.ΦA spec0 c = _
  unfold Pipeline.ΦA
  rw [scopedRest0_eq]
  simp only [owns_whole]

/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [inv_eq, inv_eq, show (dat m c).owesAt () t.succ = (dat m c).owesAt () t.castSucc from rfl, after0_0, after0_1, after0_2, after0_3, after0_4, after0_5]
  iintro ⟨⟨⟨⟨%s0, HS0⟩, ⟨%s1, HS1⟩, ⟨%s2, HS2⟩, HR0, HR1, HR2, HR3, HR4, HR5, HR6, HR7, HR8, HR9, HR10, HR11, HR12, HR13, HR14⟩, Hg⟩, Ho, ⟨%d0, H0⟩, ⟨%d1, H1⟩, ⟨%d2, H2⟩, ⟨%d3, H3⟩, ⟨%d4, H4⟩, ⟨%d5, H5⟩⟩
  iapply (body_triple c _ _ _ _ _ _ _ _ _ _ _ _ _ _ _ _ _ _ _ (iblk m c 0 t) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexists _; iexact HS0
  isplitl [HS1]; · iexists _; iexact HS1
  isplitl [HS2]; · iexists _; iexact HS2
  iintro ⟨H0, H1, H2, H3, H4, H5, HS0, HS1, HS2⟩
  isplitl [HS0 HS1 HS2 HR0 HR1 HR2 HR3 HR4 HR5 HR6 HR7 HR8 HR9 HR10 HR11 HR12 HR13 HR14 Hg]
  · isplitl [HS0 HS1 HS2 HR0 HR1 HR2 HR3 HR4 HR5 HR6 HR7 HR8 HR9 HR10 HR11 HR12 HR13 HR14]
    · isplitl [HS0]; · iexact HS0
      isplitl [HS1]; · iexact HS1
      isplitl [HS2]; · iexact HS2
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      iexact HR14
    · iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dat m c) (defs₀ (F := Ideal)) Variants.none () Set.univ := fun t => by
  rw [bigSep_W0, bigSep_W0, defs₀_row]
  exact triple_restated (sound_body m c t) rfl .rfl fun _ => .rfl

/-! ## The arrays after the run -/

theorem idx0 : ∀ t : Fin cfg0.N, win0_0.index t = ![(grid0.coords t 0).val, 0, (grid0.coords t 1).val, 0] :=
  (by decide +kernel : ∀ t : Fin grid0.N, _)
theorem idx1 : ∀ t : Fin cfg0.N, win0_1.index t = ![(grid0.coords t 0).val, 0, (grid0.coords t 1).val, 0] :=
  (by decide +kernel : ∀ t : Fin grid0.N, _)
theorem idx2 : ∀ t : Fin cfg0.N, win0_2.index t = ![(grid0.coords t 0).val, 0, (grid0.coords t 1).val, 0] :=
  (by decide +kernel : ∀ t : Fin grid0.N, _)
theorem idx3 : ∀ t : Fin cfg0.N, win0_3.index t = ![(grid0.coords t 0).val, (grid0.coords t 1).val, 0] :=
  (by decide +kernel : ∀ t : Fin grid0.N, _)
theorem idx4 : ∀ t : Fin cfg0.N, win0_4.index t = ![(grid0.coords t 0).val, 0, (grid0.coords t 1).val, 0] :=
  (by decide +kernel : ∀ t : Fin grid0.N, _)
theorem idx5 : ∀ t : Fin cfg0.N, win0_5.index t = ![(grid0.coords t 0).val, (grid0.coords t 1).val, 0] :=
  (by decide +kernel : ∀ t : Fin grid0.N, _)

/-- A column of the block at a point is a column of the argument. -/
theorem col_block (c : Dev nD) (t : Fin cfg0.N) (r : Fin 32) (l : Fin 128) (b : Fin 2) (h : Fin 64) (l' : Fin 128)
    (hb : b.val = (grid0.coords t 0).val) (hh : h.val = (grid0.coords t 1).val * 32 + r.val) (hl : l' = l) :
    col (iblk m c 0 t) r l = colA (m ((c : Thread nD τ).loc main_arg0)) b h l' := by
  subst hl
  funext n
  unfold col colA
  split
  · blk_simp [iblk, V]
    congr 1
    blk_ext [idx0 t]
  · rfl

theorem final_xhat (c : Dev nD) : (dat m c).arrAt 1 cfg0.N = fun i : S2x768x64x128.Idx => xhatX (colA (m ((c : Thread nD τ).loc main_arg0)) (i 0) (i 2) (i 3)) (i 1).val := by
  refine (dat m c).arrAt_eq_of_covers 1 _ (by decide +kernel) fun t hf y => ?_
  blk_simp
  rw [after0_1]
  have key := col_block m c t (y 2) (y 3) (((cfg0.win 1).blk t).view.emb y 0) (((cfg0.win 1).blk t).view.emb y 2) (((cfg0.win 1).blk t).view.emb y 3) ?_ ?_ ?_
  · exact congrArg₂ xhatX key (by blk_simp [idx1 t])
  · blk_simp [idx1 t]
  · blk_simp [idx1 t]
  · apply Fin.ext; blk_simp [idx1 t]

theorem final_codes (c : Dev nD) : (dat m c).arrAt 2 cfg0.N = fun i : S2x77x64x128.Idx => codeX (colA (m ((c : Thread nD τ).loc main_arg0)) (i 0) (i 2) (i 3)) (i 1).val := by
  refine (dat m c).arrAt_eq_of_covers 2 _ (by decide +kernel) fun t hf y => ?_
  blk_simp
  rw [after0_2]
  have key := col_block m c t (y 2) (y 3) (((cfg0.win 2).blk t).view.emb y 0) (((cfg0.win 2).blk t).view.emb y 2) (((cfg0.win 2).blk t).view.emb y 3) ?_ ?_ ?_
  · exact congrArg₂ codeX key (by blk_simp [idx2 t])
  · blk_simp [idx2 t]
  · blk_simp [idx2 t]
  · apply Fin.ext; blk_simp [idx2 t]

theorem final_ascale (c : Dev nD) : (dat m c).arrAt 3 cfg0.N = fun i : S2x64x128.Idx => scaleK (cntX (colA (m ((c : Thread nD τ).loc main_arg0)) (i 0) (i 1) (i 2))) := by
  refine (dat m c).arrAt_eq_of_covers 3 _ (by decide +kernel) fun t hf y => ?_
  blk_simp
  rw [after0_3]
  have key := col_block m c t (y 1) (y 2) (((cfg0.win 3).blk t).view.emb y 0) (((cfg0.win 3).blk t).view.emb y 1) (((cfg0.win 3).blk t).view.emb y 2) ?_ ?_ ?_
  · exact congrArg (scaleK ∘ cntX) key
  · blk_simp [idx3 t]
  · blk_simp [idx3 t]
  · apply Fin.ext; blk_simp [idx3 t]

theorem final_packed (c : Dev nD) : (dat m c).arrAt 4 cfg0.N = fun i : S2x384x64x128.Idx => byteX (colA (m ((c : Thread nD τ).loc main_arg0)) (i 0) (i 2) (i 3)) (i 1).val := by
  refine (dat m c).arrAt_eq_of_covers 4 _ (by decide +kernel) fun t hf y => ?_
  blk_simp
  rw [after0_4]
  have key := col_block m c t (y 2) (y 3) (((cfg0.win 4).blk t).view.emb y 0) (((cfg0.win 4).blk t).view.emb y 2) (((cfg0.win 4).blk t).view.emb y 3) ?_ ?_ ?_
  · exact congrArg₂ byteX key (by blk_simp [idx4 t])
  · blk_simp [idx4 t]
  · blk_simp [idx4 t]
  · apply Fin.ext; blk_simp [idx4 t]

theorem final_dscale (c : Dev nD) : (dat m c).arrAt 5 cfg0.N = fun i : S2x64x128.Idx => dscaleX (colA (m ((c : Thread nD τ).loc main_arg0)) (i 0) (i 1) (i 2)) := by
  refine (dat m c).arrAt_eq_of_covers 5 _ (by decide +kernel) fun t hf y => ?_
  blk_simp
  rw [after0_5]
  have key := col_block m c t (y 1) (y 2) (((cfg0.win 5).blk t).view.emb y 0) (((cfg0.win 5).blk t).view.emb y 1) (((cfg0.win 5).blk t).view.emb y 2) ?_ ?_ ?_
  · exact congrArg (dscaleX) key
  · blk_simp [idx5 t]
  · blk_simp [idx5 t]
  · apply Fin.ext; blk_simp [idx5 t]

end Call0

namespace Call1

/-- Window `w`'s block at point `t`, read off its array as launched. -/
def iblk (c : Dev nD) (w : Fin cfg1.W) (t : Fin cfg1.N) : ((cfg1.win w).xblock (cfg1.grid.coords t)).Idx → Elt Ideal (cfg1.win w).elt :=
  ((cfg1.win w).blk t).view.read (Elt Ideal) (V m c (Pipeline.arrRef spec1 w))

theorem before1_0_of {c : Dev nD} (dat : Dat τ (Elt Ideal) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The pipeline's proof data. After the body at a point, each result's buffer holds what the codec leaves of the point's block. -/
def dat (c : Dev nD) : Dat τ (Elt Ideal) Unit ℕ (UR sig nD τ) ℕ cfg1 c where
  A w := V m c (Pipeline.arrRef spec1 w)
  after w t := match w with
    | ⟨0, _⟩ => iblk m c 0 t
    | ⟨1, _⟩ => XHAT (iblk m c 0 t)
    | ⟨2, _⟩ => ACODE (iblk m c 0 t)
    | ⟨3, _⟩ => ASCALE (iblk m c 0 t)
    | ⟨4, _⟩ => PACKED (iblk m c 0 t)
    | ⟨5, _⟩ => DSCALE (iblk m c 0 t)
  Φ _ := Pipeline.ΦA spec1 c
  q _ := fullShare
  owed _ := 0

theorem A_eq (c : Dev nD) (w : Fin cfg1.W) : (dat m c).A w = V m c (Pipeline.arrRef spec1 w) := by
  dsimp only [dat]

theorem after1_0 (c : Dev nD) (t : Fin cfg1.N) : (dat m c).after 0 t = iblk m c 0 t := by dsimp only [dat]

theorem after1_1 (c : Dev nD) (t : Fin cfg1.N) : (dat m c).after 1 t = XHAT (iblk m c 0 t) := by dsimp only [dat]
theorem after1_2 (c : Dev nD) (t : Fin cfg1.N) : (dat m c).after 2 t = ACODE (iblk m c 0 t) := by dsimp only [dat]
theorem after1_3 (c : Dev nD) (t : Fin cfg1.N) : (dat m c).after 3 t = ASCALE (iblk m c 0 t) := by dsimp only [dat]
theorem after1_4 (c : Dev nD) (t : Fin cfg1.N) : (dat m c).after 4 t = PACKED (iblk m c 0 t) := by dsimp only [dat]
theorem after1_5 (c : Dev nD) (t : Fin cfg1.N) : (dat m c).after 5 t = DSCALE (iblk m c 0 t) := by dsimp only [dat]

theorem before1_0 (c : Dev nD) (t : Fin cfg1.N) (d) : (dat m c).before 0 t d = iblk m c 0 t :=
  before1_0_of m (dat m c) (A_eq m c 0) (after1_0 m c) t d

def bodyPre (c : Dev nD) (t : Fin cfg1.N) : sProp 𝕄 :=
  iprop((dat m c).Φ t.castSucc ∗ (dat m c).owesAt () t.castSucc
    ∗ (∃ d, owns (c : Thread nD τ) (st1_0 t) fullShare ((dat m c).before 0 t d))
    ∗ (∃ d, owns (c : Thread nD τ) (st1_1 t) fullShare ((dat m c).before 1 t d))
    ∗ (∃ d, owns (c : Thread nD τ) (st1_2 t) fullShare ((dat m c).before 2 t d))
    ∗ (∃ d, owns (c : Thread nD τ) (st1_3 t) fullShare ((dat m c).before 3 t d))
    ∗ (∃ d, owns (c : Thread nD τ) (st1_4 t) fullShare ((dat m c).before 4 t d))
    ∗ (∃ d, owns (c : Thread nD τ) (st1_5 t) fullShare ((dat m c).before 5 t d)))

def bodyPost (c : Dev nD) (t : Fin cfg1.N) : sProp 𝕄 :=
  iprop((dat m c).Φ t.succ ∗ (dat m c).owesAt () t.succ
    ∗ owns (c : Thread nD τ) (st1_0 t) fullShare ((dat m c).after 0 t)
    ∗ owns (c : Thread nD τ) (st1_1 t) fullShare ((dat m c).after 1 t)
    ∗ owns (c : Thread nD τ) (st1_2 t) fullShare ((dat m c).after 2 t)
    ∗ owns (c : Thread nD τ) (st1_3 t) fullShare ((dat m c).after 3 t)
    ∗ owns (c : Thread nD τ) (st1_4 t) fullShare ((dat m c).after 4 t)
    ∗ owns (c : Thread nD τ) (st1_5 t) fullShare ((dat m c).after 5 t))

/-- The scratch buffers, this call's and the other's, the other call's staging buffers and the generator register are what the invariant holds. -/
theorem inv_eq (c : Dev nD) (t : Fin (cfg1.N + 1)) : (dat m c).Φ t
    = iprop(iprop((∃ f : Buf (Elt Ideal) ((c : Thread nD τ).loc cc0_stg0_0), ((c : Thread nD τ).loc cc0_stg0_0) ↦{fullShare} f) ∗ (∃ f : Buf (Elt Ideal) ((c : Thread nD τ).loc cc0_stg0_1), ((c : Thread nD τ).loc cc0_stg0_1) ↦{fullShare} f) ∗ (∃ f : Buf (Elt Ideal) ((c : Thread nD τ).loc cc0_stg1_0), ((c : Thread nD τ).loc cc0_stg1_0) ↦{fullShare} f) ∗ (∃ f : Buf (Elt Ideal) ((c : Thread nD τ).loc cc0_stg1_1), ((c : Thread nD τ).loc cc0_stg1_1) ↦{fullShare} f) ∗ (∃ f : Buf (Elt Ideal) ((c : Thread nD τ).loc cc0_stg2_0), ((c : Thread nD τ).loc cc0_stg2_0) ↦{fullShare} f) ∗ (∃ f : Buf (Elt Ideal) ((c : Thread nD τ).loc cc0_stg2_1), ((c : Thread nD τ).loc cc0_stg2_1) ↦{fullShare} f) ∗ (∃ f : Buf (Elt Ideal) ((c : Thread nD τ).loc cc0_stg3_0), ((c : Thread nD τ).loc cc0_stg3_0) ↦{fullShare} f) ∗ (∃ f : Buf (Elt Ideal) ((c : Thread nD τ).loc cc0_stg3_1), ((c : Thread nD τ).loc cc0_stg3_1) ↦{fullShare} f) ∗ (∃ f : Buf (Elt Ideal) ((c : Thread nD τ).loc cc0_stg4_0), ((c : Thread nD τ).loc cc0_stg4_0) ↦{fullShare} f) ∗ (∃ f : Buf (Elt Ideal) ((c : Thread nD τ).loc cc0_stg4_1), ((c : Thread nD τ).loc cc0_stg4_1) ↦{fullShare} f) ∗ (∃ f : Buf (Elt Ideal) ((c : Thread nD τ).loc cc0_stg5_0), ((c : Thread nD τ).loc cc0_stg5_0) ↦{fullShare} f) ∗ (∃ f : Buf (Elt Ideal) ((c : Thread nD τ).loc cc0_stg5_1), ((c : Thread nD τ).loc cc0_stg5_1) ↦{fullShare} f) ∗ (∃ f : Buf (Elt Ideal) ((c : Thread nD τ).loc cc0_scratch0), ((c : Thread nD τ).loc cc0_scratch0) ↦{fullShare} f) ∗ (∃ f : Buf (Elt Ideal) ((c : Thread nD τ).loc cc0_scratch1), ((c : Thread nD τ).loc cc0_scratch1) ↦{fullShare} f) ∗ (∃ f : Buf (Elt Ideal) ((c : Thread nD τ).loc cc0_scratch2), ((c : Thread nD τ).loc cc0_scratch2) ↦{fullShare} f) ∗ (∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d))
        ∗ (∃ r, prngReg c r)) := by
  show Pipeline.ΦA spec1 c = _
  unfold Pipeline.ΦA
  rw [scopedRest1_eq]
  simp only [owns_whole]

/-- The body at any point of the grid. -/
theorem sound_body (c : Dev nD) (t : Fin cfg1.N) :
    bodyPre m c t ⊢ wp frame (wpE (defs₀ (F := Ideal)) Variants.none c none) Set.univ (bodyAt1 t) (fun _ => bodyPost m c t) := by
  unfold bodyPre bodyPost bodyAt1
  rw [body_same]
  simp only [before1_0]
  rw [inv_eq, inv_eq, show (dat m c).owesAt () t.succ = (dat m c).owesAt () t.castSucc from rfl, after1_0, after1_1, after1_2, after1_3, after1_4, after1_5]
  iintro ⟨⟨⟨HR0, HR1, HR2, HR3, HR4, HR5, HR6, HR7, HR8, HR9, HR10, HR11, HR12, HR13, HR14, ⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩⟩
  iapply (body_triple c _ _ _ _ _ _ _ _ _ _ _ _ _ _ _ _ _ _ _ (iblk m c 0 t) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexists _; iexact HS0
  isplitl [HS1]; · iexists _; iexact HS1
  isplitl [HS2]; · iexists _; iexact HS2
  iintro ⟨H0, H1, H2, H3, H4, H5, HS0, HS1, HS2⟩
  isplitl [HR0 HR1 HR2 HR3 HR4 HR5 HR6 HR7 HR8 HR9 HR10 HR11 HR12 HR13 HR14 HS0 HS1 HS2 Hg]
  · isplitl [HR0 HR1 HR2 HR3 HR4 HR5 HR6 HR7 HR8 HR9 HR10 HR11 HR12 HR13 HR14 HS0 HS1 HS2]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HS0]; · iexact HS0
      isplitl [HS1]; · iexact HS1
      iexact HS2
    · iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg1.N) :
    defs₀ (F := Ideal) .tc cfg1.body (cfg1.bodyArgs t (cfg1.slots t)) = bodyAt1 t := by
  unfold defs₀; rw [Defs.onTc_tc]

theorem body_obligation (c : Dev nD) : BodyObligation (dat m c) (defs₀ (F := Ideal)) Variants.none () Set.univ := fun t => by
  rw [bigSep_W1, bigSep_W1, defs₀_row]
  exact triple_restated (sound_body m c t) rfl .rfl fun _ => .rfl

/-! ## The arrays after the run -/

theorem idx0 : ∀ t : Fin cfg1.N, win1_0.index t = ![(grid1.coords t 0).val, 0, (grid1.coords t 1).val, 0] :=
  (by decide +kernel : ∀ t : Fin grid1.N, _)
theorem idx1 : ∀ t : Fin cfg1.N, win1_1.index t = ![(grid1.coords t 0).val, 0, (grid1.coords t 1).val, 0] :=
  (by decide +kernel : ∀ t : Fin grid1.N, _)
theorem idx2 : ∀ t : Fin cfg1.N, win1_2.index t = ![(grid1.coords t 0).val, 0, (grid1.coords t 1).val, 0] :=
  (by decide +kernel : ∀ t : Fin grid1.N, _)
theorem idx3 : ∀ t : Fin cfg1.N, win1_3.index t = ![(grid1.coords t 0).val, (grid1.coords t 1).val, 0] :=
  (by decide +kernel : ∀ t : Fin grid1.N, _)
theorem idx4 : ∀ t : Fin cfg1.N, win1_4.index t = ![(grid1.coords t 0).val, 0, (grid1.coords t 1).val, 0] :=
  (by decide +kernel : ∀ t : Fin grid1.N, _)
theorem idx5 : ∀ t : Fin cfg1.N, win1_5.index t = ![(grid1.coords t 0).val, (grid1.coords t 1).val, 0] :=
  (by decide +kernel : ∀ t : Fin grid1.N, _)

/-- A column of the block at a point is a column of the argument. -/
theorem col_block (c : Dev nD) (t : Fin cfg1.N) (r : Fin 32) (l : Fin 128) (b : Fin 2) (h : Fin 64) (l' : Fin 128)
    (hb : b.val = (grid1.coords t 0).val) (hh : h.val = (grid1.coords t 1).val * 32 + r.val) (hl : l' = l) :
    col (iblk m c 0 t) r l = colA (m ((c : Thread nD τ).loc main_arg1)) b h l' := by
  subst hl
  funext n
  unfold col colA
  split
  · blk_simp [iblk, V]
    congr 1
    blk_ext [idx0 t]
  · rfl

theorem final_xhat (c : Dev nD) : (dat m c).arrAt 1 cfg1.N = fun i : S2x768x64x128.Idx => xhatX (colA (m ((c : Thread nD τ).loc main_arg1)) (i 0) (i 2) (i 3)) (i 1).val := by
  refine (dat m c).arrAt_eq_of_covers 1 _ (by decide +kernel) fun t hf y => ?_
  blk_simp
  rw [after1_1]
  have key := col_block m c t (y 2) (y 3) (((cfg1.win 1).blk t).view.emb y 0) (((cfg1.win 1).blk t).view.emb y 2) (((cfg1.win 1).blk t).view.emb y 3) ?_ ?_ ?_
  · exact congrArg₂ xhatX key (by blk_simp [idx1 t])
  · blk_simp [idx1 t]
  · blk_simp [idx1 t]
  · apply Fin.ext; blk_simp [idx1 t]

theorem final_codes (c : Dev nD) : (dat m c).arrAt 2 cfg1.N = fun i : S2x77x64x128.Idx => codeX (colA (m ((c : Thread nD τ).loc main_arg1)) (i 0) (i 2) (i 3)) (i 1).val := by
  refine (dat m c).arrAt_eq_of_covers 2 _ (by decide +kernel) fun t hf y => ?_
  blk_simp
  rw [after1_2]
  have key := col_block m c t (y 2) (y 3) (((cfg1.win 2).blk t).view.emb y 0) (((cfg1.win 2).blk t).view.emb y 2) (((cfg1.win 2).blk t).view.emb y 3) ?_ ?_ ?_
  · exact congrArg₂ codeX key (by blk_simp [idx2 t])
  · blk_simp [idx2 t]
  · blk_simp [idx2 t]
  · apply Fin.ext; blk_simp [idx2 t]

theorem final_ascale (c : Dev nD) : (dat m c).arrAt 3 cfg1.N = fun i : S2x64x128.Idx => scaleK (cntX (colA (m ((c : Thread nD τ).loc main_arg1)) (i 0) (i 1) (i 2))) := by
  refine (dat m c).arrAt_eq_of_covers 3 _ (by decide +kernel) fun t hf y => ?_
  blk_simp
  rw [after1_3]
  have key := col_block m c t (y 1) (y 2) (((cfg1.win 3).blk t).view.emb y 0) (((cfg1.win 3).blk t).view.emb y 1) (((cfg1.win 3).blk t).view.emb y 2) ?_ ?_ ?_
  · exact congrArg (scaleK ∘ cntX) key
  · blk_simp [idx3 t]
  · blk_simp [idx3 t]
  · apply Fin.ext; blk_simp [idx3 t]

theorem final_packed (c : Dev nD) : (dat m c).arrAt 4 cfg1.N = fun i : S2x384x64x128.Idx => byteX (colA (m ((c : Thread nD τ).loc main_arg1)) (i 0) (i 2) (i 3)) (i 1).val := by
  refine (dat m c).arrAt_eq_of_covers 4 _ (by decide +kernel) fun t hf y => ?_
  blk_simp
  rw [after1_4]
  have key := col_block m c t (y 2) (y 3) (((cfg1.win 4).blk t).view.emb y 0) (((cfg1.win 4).blk t).view.emb y 2) (((cfg1.win 4).blk t).view.emb y 3) ?_ ?_ ?_
  · exact congrArg₂ byteX key (by blk_simp [idx4 t])
  · blk_simp [idx4 t]
  · blk_simp [idx4 t]
  · apply Fin.ext; blk_simp [idx4 t]

theorem final_dscale (c : Dev nD) : (dat m c).arrAt 5 cfg1.N = fun i : S2x64x128.Idx => dscaleX (colA (m ((c : Thread nD τ).loc main_arg1)) (i 0) (i 1) (i 2)) := by
  refine (dat m c).arrAt_eq_of_covers 5 _ (by decide +kernel) fun t hf y => ?_
  blk_simp
  rw [after1_5]
  have key := col_block m c t (y 1) (y 2) (((cfg1.win 5).blk t).view.emb y 0) (((cfg1.win 5).blk t).view.emb y 1) (((cfg1.win 5).blk t).view.emb y 2) ?_ ?_ ?_
  · exact congrArg (dscaleX) key
  · blk_simp [idx5 t]
  · blk_simp [idx5 t]
  · apply Fin.ext; blk_simp [idx5 t]

end Call1

/-! ## The two calls together -/

/-- Both calls' proof data. -/
def pdats : (p : Fin 2) → (c : Dev nD) → Dat τ (Elt Ideal) Unit ℕ (UR sig nD τ) ℕ (Pipeline.pin (pcfgs (F := Ideal)) adm p) c
  | ⟨0, _⟩, c => Call0.dat m c
  | ⟨1, _⟩, c => Call1.dat m c

/-- The windows whose contents are forgotten. -/
def fgt : (p : Fin 2) → Fin (Pipeline.pin (pcfgs (F := Ideal)) adm p).W → Bool
  | ⟨0, _⟩ => fun _ => false
  | ⟨1, _⟩ => fun _ => false

set_option backward.isDefEq.respectTransparency.types false in
set_option maxHeartbeats 800000 in
/-- The run: every array of either call ends at contents its proof data allow, every counter at zero. -/
theorem run_arrays : θ_run defs (onTc (τ := τ) (main (F := Ideal))) ⟨m, fun _ => 0, ρ⟩ (fun r =>
      (∀ c p w, (TwoCalls.rds (pcfgs (F := Ideal)) adm (pdats m) fgt p c).ArrAt w (Pipeline.pin (pcfgs (F := Ideal)) adm p).N
          (r.2.mem (((Pipeline.pin (pcfgs (F := Ideal)) adm p).spec w).arr.view.loc (c.tc : Thread nD τ))))
        ∧ r.2.sem = fun _ => 0) := by
  refine TwoCalls.run (pcfgs (F := Ideal)) adm (pdats m) defs₀ Variants.none fgt ?_ ?_ ?_ ?_ ?_ ?_ ?_ m ρ ?_ ?_ ?_ main main_chain
  · intro p
    fin_cases p
    · exact launch0.toP
    · exact launch1.toP
  · intro p
    rfl
  · intro p c
    fin_cases p
    · exact (Call0.body_obligation m c).loose
    · exact (Call1.body_obligation m c).loose
  · intro p c t
    fin_cases p <;> rfl
  · intro p c
    fin_cases p <;> rfl
  · intro p c t
    fin_cases p <;> rfl
  · intro p c w
    fin_cases p
    · exact (Call0.dat m c).share_full (fun _ => rfl) w
    · exact (Call1.dat m c).share_full (fun _ => rfl) w
  · intro p c w
    fin_cases p <;> rfl
  · show Disjoint (Pipeline.arrRefs spec0) (Pipeline.arrRefs spec1)
    decide
  · decide

/-- Every run ends, with the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
    ((Pipeline.Dat.toRForget_arrAt_iff (dat := Call0.dat m c) (w := 0) rfl _ _).mp (h.1 c 0 0)).trans ((Call0.dat m c).arrAt_in 0 rfl _),
    ((Pipeline.Dat.toRForget_arrAt_iff (dat := Call1.dat m c) (w := 0) rfl _ _).mp (h.1 c 1 0)).trans ((Call1.dat m c).arrAt_in 0 rfl _)⟩, h.2⟩) (run_arrays m ρ)

/-- The run, its ten results and its arguments named. -/
theorem run_values : θ_run defs (onTc (τ := τ) (main (F := Ideal))) ⟨m, fun _ => 0, ρ⟩ fun r => ∀ c : Dev nD,
      r.2.mem ((c : Thread nD τ).loc main_v0_0) = (fun i : S2x768x64x128.Idx => xhatX (colA (m ((c : Thread nD τ).loc main_arg0)) (i 0) (i 2) (i 3)) (i 1).val)
      ∧ r.2.mem ((c : Thread nD τ).loc main_v1_0) = (fun i : S2x768x64x128.Idx => xhatX (colA (m ((c : Thread nD τ).loc main_arg1)) (i 0) (i 2) (i 3)) (i 1).val)
      ∧ r.2.mem ((c : Thread nD τ).loc main_v0_1) = (fun i : S2x77x64x128.Idx => codeX (colA (m ((c : Thread nD τ).loc main_arg0)) (i 0) (i 2) (i 3)) (i 1).val)
      ∧ r.2.mem ((c : Thread nD τ).loc main_v0_2) = (fun i : S2x64x128.Idx => scaleK (cntX (colA (m ((c : Thread nD τ).loc main_arg0)) (i 0) (i 1) (i 2))))
      ∧ r.2.mem ((c : Thread nD τ).loc main_v0_3) = (fun i : S2x384x64x128.Idx => byteX (colA (m ((c : Thread nD τ).loc main_arg0)) (i 0) (i 2) (i 3)) (i 1).val)
      ∧ r.2.mem ((c : Thread nD τ).loc main_v0_4) = (fun i : S2x64x128.Idx => dscaleX (colA (m ((c : Thread nD τ).loc main_arg0)) (i 0) (i 1) (i 2)))
      ∧ r.2.mem ((c : Thread nD τ).loc main_v1_1) = (fun i : S2x77x64x128.Idx => codeX (colA (m ((c : Thread nD τ).loc main_arg1)) (i 0) (i 2) (i 3)) (i 1).val)
      ∧ r.2.mem ((c : Thread nD τ).loc main_v1_2) = (fun i : S2x64x128.Idx => scaleK (cntX (colA (m ((c : Thread nD τ).loc main_arg1)) (i 0) (i 1) (i 2))))
      ∧ r.2.mem ((c : Thread nD τ).loc main_v1_3) = (fun i : S2x384x64x128.Idx => byteX (colA (m ((c : Thread nD τ).loc main_arg1)) (i 0) (i 2) (i 3)) (i 1).val)
      ∧ r.2.mem ((c : Thread nD τ).loc main_v1_4) = (fun i : S2x64x128.Idx => dscaleX (colA (m ((c : Thread nD τ).loc main_arg1)) (i 0) (i 1) (i 2)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((Pipeline.Dat.toRForget_arrAt_iff (dat := Call0.dat m c) (w := 1) rfl _ _).mp (h.1 c 0 1)).trans (Call0.final_xhat m c),
      ((Pipeline.Dat.toRForget_arrAt_iff (dat := Call1.dat m c) (w := 1) rfl _ _).mp (h.1 c 1 1)).trans (Call1.final_xhat m c),
      ((Pipeline.Dat.toRForget_arrAt_iff (dat := Call0.dat m c) (w := 2) rfl _ _).mp (h.1 c 0 2)).trans (Call0.final_codes m c),
      ((Pipeline.Dat.toRForget_arrAt_iff (dat := Call0.dat m c) (w := 3) rfl _ _).mp (h.1 c 0 3)).trans (Call0.final_ascale m c),
      ((Pipeline.Dat.toRForget_arrAt_iff (dat := Call0.dat m c) (w := 4) rfl _ _).mp (h.1 c 0 4)).trans (Call0.final_packed m c),
      ((Pipeline.Dat.toRForget_arrAt_iff (dat := Call0.dat m c) (w := 5) rfl _ _).mp (h.1 c 0 5)).trans (Call0.final_dscale m c),
      ((Pipeline.Dat.toRForget_arrAt_iff (dat := Call1.dat m c) (w := 2) rfl _ _).mp (h.1 c 1 2)).trans (Call1.final_codes m c),
      ((Pipeline.Dat.toRForget_arrAt_iff (dat := Call1.dat m c) (w := 3) rfl _ _).mp (h.1 c 1 3)).trans (Call1.final_ascale m c),
      ((Pipeline.Dat.toRForget_arrAt_iff (dat := Call1.dat m c) (w := 4) rfl _ _).mp (h.1 c 1 4)).trans (Call1.final_packed m c),
      ((Pipeline.Dat.toRForget_arrAt_iff (dat := Call1.dat m c) (w := 5) rfl _ _).mp (h.1 c 1 5)).trans (Call1.final_dscale m c),
      ((Pipeline.Dat.toRForget_arrAt_iff (dat := Call0.dat m c) (w := 0) rfl _ _).mp (h.1 c 0 0)).trans ((Call0.dat m c).arrAt_in 0 rfl _),
      ((Pipeline.Dat.toRForget_arrAt_iff (dat := Call1.dat m c) (w := 0) rfl _ _).mp (h.1 c 1 0)).trans ((Call1.dat m c).arrAt_in 0 rfl _)⟩)
    (run_arrays m ρ)

end Cert.KernelIdeal.Gen
end
-- ==== Proof.RefPay.lean ====
/-
  The reference's values at an index: along one batch, head and dim they are the reference codec of that column.
-/
module
public import proofs.«01_k».proof.Proof.Gen.ReferenceIdeal.Frame
public import proofs.«01_k».proof.Proof.RefForms
public import Idealize.ShloMosaic.Lib.Pointwise
@[expose] public section
set_option maxRecDepth 16384
noncomputable section
namespace Cert.ReferenceIdeal.Gen
open Idealize.ShloMosaic Idealize.ShloMosaic.TcCoe Idealize.ShloMosaic.Tactic
open Cert.Codec

/-- A tensor without the token axis, spread over the anchors. -/
theorem spread77 (u : FVec Ideal S2x64x128 .f32) (b : Fin 2) (g : Fin 77) (h : Fin 64) (l : Fin 128) :
    broadcastTo S2x77x64x128 (shapeCast S2x1x64x128 u shapeCasts_S2x64x128_S2x1x64x128)
      broadcasts_S2x1x64x128_S2x77x64x128 (ix4 b g h l) = u (ix3 b h l) := by pointwise

/-- A tensor without the token axis, spread over the tokens. -/
theorem spread768 (u : FVec Ideal S2x64x128 .f32) (b : Fin 2) (g : Fin 768) (h : Fin 64) (l : Fin 128) :
    broadcastTo S2x768x64x128 (shapeCast S2x1x64x128 u shapeCasts_S2x64x128_S2x1x64x128)
      broadcasts_S2x1x64x128_S2x768x64x128 (ix4 b g h l) = u (ix3 b h l) := by pointwise

/-- The maximum over the anchors. -/
theorem max77 (v : FVec Ideal S2x77x64x128 .f32) (b : Fin 2) (h : Fin 64) (l : Fin 128) :
    multiReduction (F := Ideal) .maximumf [1] S2x64x128 v 0xFF800000#32 reduces_S2x77x64x128_S2x64x128 (.inl rfl) rfl (ix3 b h l)
      = Finset.univ.fold max (Ideal.ofBits .f32 4286578688#32) fun g : Fin 77 => v (ix4 b g h l) := by pointwise

/-- The maximum over the tokens. -/
theorem max768 (v : FVec Ideal S2x768x64x128 .f32) (b : Fin 2) (h : Fin 64) (l : Fin 128) :
    multiReduction (F := Ideal) .maximumf [1] S2x64x128 v 0xFF800000#32 reduces_S2x768x64x128_S2x64x128 (.inl rfl) rfl (ix3 b h l)
      = Finset.univ.fold max (Ideal.ofBits .f32 4286578688#32) fun g : Fin 768 => v (ix4 b g h l) := by pointwise

/-- Each anchor repeated ten times. -/
theorem repeat10 (v : FVec Ideal S2x77x64x128 .f32) (b : Fin 2) (t : Fin 768) (h : Fin 64) (l : Fin 128) :
    extractStridedSlice S2x768x64x128 ![0, 0, 0, 0] (shapeCast S2x770x64x128 (broadcastTo S2x77x10x64x128
      (shapeCast S2x77x1x64x128 v shapeCasts_S2x77x64x128_S2x77x1x64x128) broadcasts_S2x77x1x64x128_S2x77x10x64x128)
      shapeCasts_S2x77x10x64x128_S2x770x64x128) slices_S2x770x64x128_o0_0_0_0_S2x768x64x128 (ix4 b t h l)
      = v (ix4 b ⟨t.val / 10, by omega⟩ h l) := by pointwise

/-- The exponent, from the maximum. -/
theorem exponent_at (A : FVec Ideal S2x64x128 .f32) (i : S2x64x128.Idx) :
    select (cmpf .oeq A (broadcast S2x64x128 (Scalar.ofBits .f32 0x00000000#32))) (broadcast S2x64x128 (Scalar.ofBits .f32 0x00000000#32))
      (addf (floor (divf (log (mulf A (broadcast S2x64x128 (Scalar.ofBits .f32 0x3B124925#32))))
        (broadcast S2x64x128 (Scalar.log (Scalar.ofBits .f32 0x40000000#32)))))
        (broadcast S2x64x128 (Scalar.ofBits .f32 0x3F800000#32))) i = expR (A i) := by
  unfold select cmpf addf floor divf log mulf broadcast
  generalize A i = a
  change Scalar.select (Ideal.cmp .oeq a (Ideal.ofBits .f32 0#32)) (Ideal.ofBits .f32 0#32)
    (Ideal.liftRound Int.floor (Ideal.div (Ideal.log (a * Ideal.ofBits .f32 991054117#32))
      (Ideal.log (Ideal.ofBits .f32 1073741824#32))) + Ideal.ofBits .f32 1065353216#32) = _
  unfold expR
  rw [Ideal.ofBits_zero_f32, Ideal.ofBits_one_f32]
  by_cases ha : a = 0 <;> simp [Scalar.select, Ideal.cmp, ha]

/-- The deltas' scale, from the maximum. -/
theorem dscale_at (A : FVec Ideal S2x64x128 .f32) (i : S2x64x128.Idx) :
    select (cmpf .oeq A (broadcast S2x64x128 (Scalar.ofBits .f32 0x00000000#32))) (broadcast S2x64x128 (Scalar.ofBits .f32 0x3F800000#32))
      (divf A (broadcast S2x64x128 (Scalar.ofBits .f32 0x40E00000#32))) i = dscaleK (A i) := by
  unfold select cmpf divf broadcast
  generalize A i = a
  change Scalar.select (Ideal.cmp .oeq a (Ideal.ofBits .f32 0#32)) (Ideal.ofBits .f32 1065353216#32)
    (Ideal.div a (Ideal.ofBits .f32 1088421888#32)) = _
  unfold dscaleK
  rw [Ideal.ofBits_zero_f32, Ideal.ofBits_one_f32]
  by_cases ha : a = 0 <;> simp [Scalar.select, Ideal.cmp, ha]

/-- An anchor's code, from the anchor and its scale. -/
theorem code_at (x e : FVec Ideal S2x77x64x128 .f32) (i : S2x77x64x128.Idx) :
    truncf .fp8e4m3 (minimumf (broadcast S2x77x64x128 (Scalar.ofBits .f32 0x43E00000#32))
      (maximumf (broadcast S2x77x64x128 (Scalar.ofBits .f32 0xC3E00000#32)) (mulf x e))) bitsLt_fp8e4m3_f32 i = codeK (e i) (x i) := by
  unfold truncf minimumf maximumf mulf broadcast
  generalize e i = a
  generalize x i = y
  rfl

/-- A power of two at an index. -/
theorem exp2_at (u : FVec Ideal S2x64x128 .f32) (i : S2x64x128.Idx) : exp2 u i = Ideal.exp2 (u i) := rfl

/-- The negated exponent at an index. -/
theorem neg_at (u : FVec Ideal S2x64x128 .f32) (i : S2x64x128.Idx) :
    subf (broadcast S2x64x128 (Scalar.ofBits .f32 0x00000000#32)) u i = 0 - u i := by
  unfold subf broadcast
  generalize u i = a
  change Ideal.ofBits .f32 0#32 - a = _
  rw [Ideal.ofBits_zero_f32]

/-- A decoded token, from its anchor, its code and the deltas' scale. -/
theorem recon_at (a d : FVec Ideal S2x768x64x128 .f32) (q : IVec S2x768x64x128 8) (i : S2x768x64x128.Idx) :
    truncf .bf16 (addf a (mulf (sitofp .f32 q) d)) bitsLt_bf16_f32 i = a i + FloatOps.sitofp (F := Ideal) FTy.f32 (q i) * d i := by
  unfold truncf addf mulf sitofp
  rfl

/-- A token's delta code, from the delta and its scale. -/
theorem delta_at (x d : FVec Ideal S2x768x64x128 .f32) (i : S2x768x64x128.Idx) :
    fptosi 8 (minimumf (broadcast S2x768x64x128 (Scalar.ofBits .f32 0x40E00000#32))
      (maximumf (broadcast S2x768x64x128 (Scalar.ofBits .f32 0xC0E00000#32)) (roundeven (divf x d)))) i
      = FloatOps.fptosi (F := Ideal) (φ := .f32) 8 (min (Ideal.ofBits FTy.f32 1088421888#32) (max (Ideal.ofBits FTy.f32 3235905536#32)
        (Ideal.liftRound Ideal.roundHalfEven (Ideal.div (x i) (d i))))) := by
  unfold fptosi minimumf maximumf roundeven divf broadcast
  generalize d i = a
  generalize x i = y
  rfl

variable (x0 : Vec Ideal S2x768x64x128 .bf16) (x1 : Vec Ideal S2x77x64x128 .bf16)

/-- The anchors as the reference reads them. -/
theorem pay1_at (i : S2x77x64x128.Idx) : k0_pay1 (F := Ideal) x1 i = x1 i := by
  idx_vars i
  pointwise [k0_pay1]

variable (X : ℕ → EReal) (b : Fin 2) (h : Fin 64) (l : Fin 128)

/-- The exponent of the anchors' scale. -/
theorem pay2_at (h1 : ∀ g : Fin 77, x1 (ix4 b g h l) = X (10 * g.val)) : k0_pay2 (F := Ideal) x1 (ix3 b h l) = expR (amaxR X) := by
  rw [k0_pay2]
  refine (exponent_at _ _).trans ?_
  rw [max77]
  refine congrArg expR (congrArg (fun f : Fin 77 → EReal => Finset.univ.fold max (Ideal.ofBits .f32 4286578688#32) f) ?_)
  funext g
  show mag (k0_pay1 (F := Ideal) x1 (ix4 b g h l)) = _
  rw [pay1_at, h1]

/-- The anchors' scale. -/
theorem pay3_at (h1 : ∀ g : Fin 77, x1 (ix4 b g h l) = X (10 * g.val)) : k0_pay3 (F := Ideal) x1 (ix3 b h l) = scaleR X := by
  rw [k0_pay3, exp2_at, pay2_at x1 X b h l h1, scaleR]

/-- The anchors' codes. -/
theorem pay4_at (h1 : ∀ g : Fin 77, x1 (ix4 b g h l) = X (10 * g.val)) (g : Fin 77) :
    k0_pay4 (F := Ideal) x1 (ix4 b g h l) = codeR X g.val := by
  rw [k0_pay4]
  refine (code_at _ _ _).trans ?_
  rw [spread77, pay1_at, h1]
  rw [exp2_at, neg_at, pay2_at x1 X b h l h1, codeR]

/-- The anchors decoded, at the tokens. -/
theorem pay5_at (h1 : ∀ g : Fin 77, x1 (ix4 b g h l) = X (10 * g.val)) (t : Fin 768) :
    k0_pay5 (F := Ideal) x1 (ix4 b t h l) = deqR X (t.val / 10) := by
  rw [k0_pay5, repeat10]
  refine (congrArg₂ (fun p q : EReal => p * q) (pay4_at x1 X b h l h1 ⟨t.val / 10, by omega⟩) (?_ : _ = scaleR X))
  rw [spread77, pay3_at x1 X b h l h1]

/-- The deltas. -/
theorem pay6_at (h1 : ∀ g : Fin 77, x1 (ix4 b g h l) = X (10 * g.val)) (h0 : ∀ t : Fin 768, x0 (ix4 b t h l) = X t.val) (t : Fin 768) :
    k0_pay6 (F := Ideal) x0 x1 (ix4 b t h l) = X t.val - deqR X (t.val / 10) := by
  rw [k0_pay6]
  exact congrArg₂ (fun p q : EReal => p - q) (h0 t) (pay5_at x1 X b h l h1 t)

/-- The deltas' magnitudes. -/
theorem pay7_at (h1 : ∀ g : Fin 77, x1 (ix4 b g h l) = X (10 * g.val)) (h0 : ∀ t : Fin 768, x0 (ix4 b t h l) = X t.val) (t : Fin 768) :
    k0_pay7 (F := Ideal) x0 x1 (ix4 b t h l) = mag (X t.val - deqR X (t.val / 10)) := by
  rw [k0_pay7]
  exact congrArg mag (pay6_at x0 x1 X b h l h1 h0 t)

/-- The deltas' scale. -/
theorem pay8_at (h1 : ∀ g : Fin 77, x1 (ix4 b g h l) = X (10 * g.val)) (h0 : ∀ t : Fin 768, x0 (ix4 b t h l) = X t.val) :
    k0_pay8 (F := Ideal) (k0_pay7 x0 x1) (ix3 b h l) = dscaleK (dmaxR X) := by
  rw [k0_pay8]
  refine (dscale_at _ _).trans ?_
  rw [max768]
  refine congrArg dscaleK (congrArg (fun f : Fin 768 → EReal => Finset.univ.fold max (Ideal.ofBits .f32 4286578688#32) f) ?_)
  funext t
  exact pay7_at x0 x1 X b h l h1 h0 t

/-- The delta codes. -/
theorem pay9_at (h1 : ∀ g : Fin 77, x1 (ix4 b g h l) = X (10 * g.val)) (h0 : ∀ t : Fin 768, x0 (ix4 b t h l) = X t.val) (t : Fin 768) :
    k0_pay9 (F := Ideal) (k0_pay6 x0 x1) (k0_pay7 x0 x1) (ix4 b t h l) = qR X t.val := by
  rw [k0_pay9]
  refine (delta_at _ _ _).trans ?_
  rw [spread768, pay8_at x0 x1 X b h l h1 h0, pay6_at x0 x1 X b h l h1 h0]
  rfl

/-- The tokens decoded. -/
theorem pay10_at (h1 : ∀ g : Fin 77, x1 (ix4 b g h l) = X (10 * g.val)) (h0 : ∀ t : Fin 768, x0 (ix4 b t h l) = X t.val) (t : Fin 768) :
    k0_pay10 (F := Ideal) (k0_pay5 x1) (k0_pay6 x0 x1) (k0_pay7 x0 x1) (ix4 b t h l) = xhatR X t.val := by
  rw [k0_pay10]
  refine (recon_at _ _ _ _).trans ?_
  rw [spread768, pay8_at x0 x1 X b h l h1 h0, pay5_at x1 X b h l h1, pay9_at x0 x1 X b h l h1 h0, xhatR]

/-- The bytes. -/
theorem pay11_at (h1 : ∀ g : Fin 77, x1 (ix4 b g h l) = X (10 * g.val)) (h0 : ∀ t : Fin 768, x0 (ix4 b t h l) = X t.val) (p : Fin 384) :
    k0_pay11 (F := Ideal) (k0_pay6 x0 x1) (k0_pay7 x0 x1) (ix4 b p h l) = byteR X p.val := by
  have e0 := pay9_at x0 x1 X b h l h1 h0 ⟨p.val * 2, by omega⟩
  have e1 := pay9_at x0 x1 X b h l h1 h0 ⟨p.val * 2 + 1, by omega⟩
  pointwise [k0_pay11]
  rw [e0, e1, byteR, Nat.mul_comm 2 p.val]

/-! The second tensor goes through the same lines. -/

theorem pay13_same : k0_pay13 (F := Ideal) x1 = k0_pay1 x1 := rfl
theorem pay14_same : k0_pay14 (F := Ideal) x1 = k0_pay2 x1 := by unfold k0_pay14 k0_pay2; rw [pay13_same]
theorem pay15_same : k0_pay15 (F := Ideal) x1 = k0_pay3 x1 := by unfold k0_pay15 k0_pay3; rw [pay14_same]
theorem pay16_same : k0_pay16 (F := Ideal) x1 = k0_pay4 x1 := by unfold k0_pay16 k0_pay4; rw [pay13_same, pay14_same]
theorem pay19_same : k0_pay19 (F := Ideal) (k0_pay17 x1) (k0_pay18 x1) = k0_pay5 x1 := by
  unfold k0_pay19 k0_pay17 k0_pay18 k0_pay5; rw [pay15_same, pay16_same]
theorem pay20_same : k0_pay20 (F := Ideal) (k0_pay12 x0) (k0_pay17 x1) (k0_pay18 x1) = k0_pay6 x0 x1 := by
  unfold k0_pay20; rw [pay19_same]; rfl
theorem pay21_same : k0_pay21 (F := Ideal) (k0_pay12 x0) (k0_pay17 x1) (k0_pay18 x1) = k0_pay8 (k0_pay7 x0 x1) := by
  unfold k0_pay21; rw [pay20_same]; rfl
theorem pay22_same : k0_pay22 (F := Ideal) (k0_pay12 x0) (k0_pay17 x1) (k0_pay18 x1) = k0_pay9 (k0_pay6 x0 x1) (k0_pay7 x0 x1) := by
  unfold k0_pay22; rw [pay20_same, pay21_same]; rfl
theorem pay23_same : k0_pay23 (F := Ideal) (k0_pay12 x0) (k0_pay17 x1) (k0_pay18 x1) = k0_pay10 (k0_pay5 x1) (k0_pay6 x0 x1) (k0_pay7 x0 x1) := by
  unfold k0_pay23; rw [pay19_same, pay21_same, pay22_same]; rfl
theorem pay24_same : k0_pay24 (F := Ideal) (k0_pay12 x0) (k0_pay17 x1) (k0_pay18 x1) = k0_pay11 (k0_pay6 x0 x1) (k0_pay7 x0 x1) := by
  unfold k0_pay24; rw [pay22_same]; rfl

end Cert.ReferenceIdeal.Gen
end
-- ==== Proof.RefValue.lean ====
/-
  What the reference leaves in its results, at an index, in terms of the column of that batch, head and dim.
-/
module
public import proofs.«01_k».proof.Proof.RefPay
public import Idealize.ShloMosaic.Lib.Pipeline.ValueKit
public import Idealize.ShloMosaic.Lib.Pointwise
@[expose] public section
set_option maxRecDepth 16384
noncomputable section
namespace Cert.ReferenceIdeal.Gen
open Idealize.ShloMosaic Idealize.ShloMosaic.TcCoe Idealize.ShloMosaic.Tactic
open Cert.Codec

variable (m : (ℓ : Loc nD τ sig) → Buf (Elt Ideal) ℓ) (ρ : Dev nD → PrngReg)

/-! The windows sit at the origin. -/
theorem idx0 : ∀ t : Fin cfg0.N, win0_0.index t = ![0, 0, 0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0, 0] := (by decide +kernel : ∀ t : Fin grid0.N, _)
theorem idx5 : ∀ t : Fin cfg0.N, win0_5.index t = ![0, 0, 0, 0] := (by decide +kernel : ∀ t : Fin grid0.N, _)
theorem idx6 : ∀ t : Fin cfg0.N, win0_6.index t = ![0, 0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0, 0] := (by decide +kernel : ∀ t : Fin grid0.N, _)
theorem idx11 : ∀ t : Fin cfg0.N, win0_11.index t = ![0, 0, 0] := (by decide +kernel : ∀ t : Fin grid0.N, _)
theorem idx12 : ∀ t : Fin cfg0.N, win0_12.index t = ![0, 0, 0, 0] := (by decide +kernel : ∀ t : Fin grid0.N, _)
theorem idx13 : ∀ t : Fin cfg0.N, win0_13.index t = ![0, 0, 0] := (by decide +kernel : ∀ t : Fin grid0.N, _)

/-- The tokens' block. -/
theorem block0 (c : Dev nD) (t : Fin cfg0.N) (b : Fin 2) (h : Fin 64) (l : Fin 128) (n : Fin 768) :
    iblk m c 0 t (ix4 b n h l) = colA (m ((c : Thread nD τ).loc main_arg0)) b h l n.val := by
  unfold iblk colA
  rw [dif_pos n.isLt]
  blk_simp
  rw [V_main_arg0]
  congr 1
  blk_ext [idx0 t]

/-- The anchors' block. -/
theorem block1 (c : Dev nD) (t : Fin cfg0.N) (b : Fin 2) (h : Fin 64) (l : Fin 128) (g : Fin 77) :
    iblk m c 1 t (ix4 b g h l) = colA (m ((c : Thread nD τ).loc main_arg0)) b h l (10 * g.val) := by
  unfold iblk colA
  rw [dif_pos (by omega)]
  blk_simp
  show StableHlo.after hostOps0 _ (Proc.devRef .tc main_v0) _ = _
  after_results
  have he : ((View.whole main_v0).slice (win0_1.rect t)).emb (ix4 b g h l) = ix4 b g h l := by blk_ext [idx1 t]
  rw [he]
  generalize m (c, Proc.tc.devRef main_arg0) = x
  pointwise

/-- The second tensor's tokens. -/
theorem block2 (c : Dev nD) (t : Fin cfg0.N) (b : Fin 2) (h : Fin 64) (l : Fin 128) (n : Fin 768) :
    iblk m c 2 t (ix4 b n h l) = colA (m ((c : Thread nD τ).loc main_arg1)) b h l n.val := by
  unfold iblk colA
  rw [dif_pos n.isLt]
  blk_simp
  rw [V_main_arg1]
  congr 1
  blk_ext [idx2 t]

/-- The second tensor's anchors. -/
theorem block3 (c : Dev nD) (t : Fin cfg0.N) (b : Fin 2) (h : Fin 64) (l : Fin 128) (g : Fin 77) :
    iblk m c 3 t (ix4 b g h l) = colA (m ((c : Thread nD τ).loc main_arg1)) b h l (10 * g.val) := by
  unfold iblk colA
  rw [dif_pos (by omega)]
  blk_simp
  show StableHlo.after hostOps0 _ (Proc.devRef .tc main_v1) _ = _
  after_results
  have he : ((View.whole main_v1).slice (win0_3.rect t)).emb (ix4 b g h l) = ix4 b g h l := by blk_ext [idx3 t]
  rw [he]
  generalize m (c, Proc.tc.devRef main_arg1) = x
  pointwise

section
variable (x0 : Vec Ideal S2x768x64x128 .bf16) (x1 : Vec Ideal S2x77x64x128 .bf16) (x2 : Vec Ideal S2x768x64x128 .bf16) (x3 : Vec Ideal S2x77x64x128 .bf16) (K : S2x768x64x128.Idx → EReal)

/-- The reference's deltas are of the whole blocks. -/
theorem pay25_eq : k0_pay25 x0 x1 x2 x3 = k0_pay6 x0 x1 := by
  unfold k0_pay25
  frame_out

/-- So are their magnitudes. -/
theorem pay26_eq : k0_pay26 x0 x1 x2 x3 = k0_pay7 x0 x1 := by
  unfold k0_pay26
  frame_out

/-- The second tensor's values, of the whole blocks. -/
theorem pay27_eq : k0_pay27 x0 x1 x2 x3 = k0_pay12 x2 := by
  unfold k0_pay27
  frame_out
theorem pay28_eq : k0_pay28 x0 x1 x2 x3 = k0_pay17 x3 := by
  unfold k0_pay28
  frame_out
theorem pay29_eq : k0_pay29 x0 x1 x2 x3 = k0_pay18 x3 := by
  unfold k0_pay29
  frame_out

/-- The decoded tokens. -/
theorem value4 (h1 : ∀ b h l (g : Fin 77), x1 (ix4 b g h l) = colA K b h l (10 * g.val))
    (h0 : ∀ b h l (n : Fin 768), x0 (ix4 b n h l) = colA K b h l n.val) (y : S2x768x64x128.Idx) :
    k0_pay10 (k0_pay5 x1) (k0_pay25 x0 x1 x2 x3) (k0_pay26 x0 x1 x2 x3) y = xhatR (colA K (y 0) (y 2) (y 3)) (y 1).val := by
  rw [pay25_eq, pay26_eq]
  idx_vars y
  exact pay10_at x0 x1 _ y0 y2 y3 (h1 y0 y2 y3) (h0 y0 y2 y3) y1

/-- The anchors' codes. -/
theorem value6 (h1 : ∀ b h l (g : Fin 77), x1 (ix4 b g h l) = colA K b h l (10 * g.val))
    (h0 : ∀ b h l (n : Fin 768), x0 (ix4 b n h l) = colA K b h l n.val) (y : S2x77x64x128.Idx) :
    k0_pay4 x1 y = codeR (colA K (y 0) (y 2) (y 3)) (y 1).val := by
  idx_vars y
  exact pay4_at x1 _ y0 y2 y3 (h1 y0 y2 y3) y1

/-- The anchors' scales. -/
theorem value7 (h1 : ∀ b h l (g : Fin 77), x1 (ix4 b g h l) = colA K b h l (10 * g.val))
    (h0 : ∀ b h l (n : Fin 768), x0 (ix4 b n h l) = colA K b h l n.val) (y : S2x64x128.Idx) :
    k0_pay3 x1 y = scaleR (colA K (y 0) (y 1) (y 2)) := by
  idx_vars y
  exact pay3_at x1 _ y0 y1 y2 (h1 y0 y1 y2)

/-- The packed delta codes. -/
theorem value8 (h1 : ∀ b h l (g : Fin 77), x1 (ix4 b g h l) = colA K b h l (10 * g.val))
    (h0 : ∀ b h l (n : Fin 768), x0 (ix4 b n h l) = colA K b h l n.val) (y : S2x384x64x128.Idx) :
    k0_pay11 (k0_pay25 x0 x1 x2 x3) (k0_pay26 x0 x1 x2 x3) y = byteR (colA K (y 0) (y 2) (y 3)) (y 1).val := by
  rw [pay25_eq, pay26_eq]
  idx_vars y
  exact pay11_at x0 x1 _ y0 y2 y3 (h1 y0 y2 y3) (h0 y0 y2 y3) y1

/-- The deltas' scales. -/
theorem value9 (h1 : ∀ b h l (g : Fin 77), x1 (ix4 b g h l) = colA K b h l (10 * g.val))
    (h0 : ∀ b h l (n : Fin 768), x0 (ix4 b n h l) = colA K b h l n.val) (y : S2x64x128.Idx) :
    k0_pay8 (k0_pay26 x0 x1 x2 x3) y = dscaleK (dmaxR (colA K (y 0) (y 1) (y 2))) := by
  rw [pay26_eq]
  idx_vars y
  exact pay8_at x0 x1 _ y0 y1 y2 (h1 y0 y1 y2) (h0 y0 y1 y2)

/-- The second tensor's decoded tokens. -/
theorem value5 (h1 : ∀ b h l (g : Fin 77), x3 (ix4 b g h l) = colA K b h l (10 * g.val))
    (h0 : ∀ b h l (n : Fin 768), x2 (ix4 b n h l) = colA K b h l n.val) (y : S2x768x64x128.Idx) :
    k0_pay23 (k0_pay27 x0 x1 x2 x3) (k0_pay28 x0 x1 x2 x3) (k0_pay29 x0 x1 x2 x3) y = xhatR (colA K (y 0) (y 2) (y 3)) (y 1).val := by
  rw [pay27_eq, pay28_eq, pay29_eq, pay23_same]
  idx_vars y
  exact pay10_at x2 x3 _ y0 y2 y3 (h1 y0 y2 y3) (h0 y0 y2 y3) y1

/-- The second tensor's anchors' codes. -/
theorem value10 (h1 : ∀ b h l (g : Fin 77), x3 (ix4 b g h l) = colA K b h l (10 * g.val))
    (h0 : ∀ b h l (n : Fin 768), x2 (ix4 b n h l) = colA K b h l n.val) (y : S2x77x64x128.Idx) :
    k0_pay16 x3 y = codeR (colA K (y 0) (y 2) (y 3)) (y 1).val := by
  rw [pay16_same]
  idx_vars y
  exact pay4_at x3 _ y0 y2 y3 (h1 y0 y2 y3) y1

/-- The second tensor's anchors' scales. -/
theorem value11 (h1 : ∀ b h l (g : Fin 77), x3 (ix4 b g h l) = colA K b h l (10 * g.val))
    (h0 : ∀ b h l (n : Fin 768), x2 (ix4 b n h l) = colA K b h l n.val) (y : S2x64x128.Idx) :
    k0_pay15 x3 y = scaleR (colA K (y 0) (y 1) (y 2)) := by
  rw [pay15_same]
  idx_vars y
  exact pay3_at x3 _ y0 y1 y2 (h1 y0 y1 y2)

/-- The second tensor's packed delta codes. -/
theorem value12 (h1 : ∀ b h l (g : Fin 77), x3 (ix4 b g h l) = colA K b h l (10 * g.val))
    (h0 : ∀ b h l (n : Fin 768), x2 (ix4 b n h l) = colA K b h l n.val) (y : S2x384x64x128.Idx) :
    k0_pay24 (k0_pay27 x0 x1 x2 x3) (k0_pay28 x0 x1 x2 x3) (k0_pay29 x0 x1 x2 x3) y = byteR (colA K (y 0) (y 2) (y 3)) (y 1).val := by
  rw [pay27_eq, pay28_eq, pay29_eq, pay24_same]
  idx_vars y
  exact pay11_at x2 x3 _ y0 y2 y3 (h1 y0 y2 y3) (h0 y0 y2 y3) y1

/-- The second tensor's deltas' scales. -/
theorem value13 (h1 : ∀ b h l (g : Fin 77), x3 (ix4 b g h l) = colA K b h l (10 * g.val))
    (h0 : ∀ b h l (n : Fin 768), x2 (ix4 b n h l) = colA K b h l n.val) (y : S2x64x128.Idx) :
    k0_pay21 (k0_pay27 x0 x1 x2 x3) (k0_pay28 x0 x1 x2 x3) (k0_pay29 x0 x1 x2 x3) y = dscaleK (dmaxR (colA K (y 0) (y 1) (y 2))) := by
  rw [pay27_eq, pay28_eq, pay29_eq, pay21_same]
  idx_vars y
  exact pay8_at x2 x3 _ y0 y1 y2 (h1 y0 y1 y2) (h0 y0 y1 y2)

end

/-- The decoded tokens. -/
theorem final4 (c : Dev nD) : (dats m 0 c).arrAt 4 cfg0.N = (fun i : S2x768x64x128.Idx =>
    xhatR (colA (m ((c : Thread nD τ).loc main_arg0)) (i 0) (i 2) (i 3)) (i 1).val) := by
  refine (dats m 0 c).arrAt_eq_of_covers 4 _ (by decide +kernel) fun t hf y => ?_
  have he : ((cfg0.win 4).blk t).view.emb y = y := by blk_ext [idx4 t]
  rw [after0_4]
  frame_out
  refine Eq.trans ?_ (congrArg (fun i : S2x768x64x128.Idx => xhatR (colA (m ((c : Thread nD τ).loc main_arg0)) (i 0) (i 2) (i 3)) (i 1).val) he.symm)
  blk_simp
  exact value4 (iblk m c 0 t) (iblk m c 1 t) (iblk m c 2 t) (iblk m c 3 t) _ (block1 m c t) (block0 m c t) y

/-- The anchors' codes. -/
theorem final6 (c : Dev nD) : (dats m 0 c).arrAt 6 cfg0.N = (fun i : S2x77x64x128.Idx =>
    codeR (colA (m ((c : Thread nD τ).loc main_arg0)) (i 0) (i 2) (i 3)) (i 1).val) := by
  refine (dats m 0 c).arrAt_eq_of_covers 6 _ (by decide +kernel) fun t hf y => ?_
  have he : ((cfg0.win 6).blk t).view.emb y = y := by blk_ext [idx6 t]
  rw [after0_6]
  frame_out
  refine Eq.trans ?_ (congrArg (fun i : S2x77x64x128.Idx => codeR (colA (m ((c : Thread nD τ).loc main_arg0)) (i 0) (i 2) (i 3)) (i 1).val) he.symm)
  blk_simp
  exact value6 (iblk m c 0 t) (iblk m c 1 t) _ (block1 m c t) (block0 m c t) y

/-- The anchors' scales. -/
theorem final7 (c : Dev nD) : (dats m 0 c).arrAt 7 cfg0.N = (fun i : S2x64x128.Idx =>
    scaleR (colA (m ((c : Thread nD τ).loc main_arg0)) (i 0) (i 1) (i 2))) := by
  refine (dats m 0 c).arrAt_eq_of_covers 7 _ (by decide +kernel) fun t hf y => ?_
  have he : ((cfg0.win 7).blk t).view.emb y = y := by blk_ext [idx7 t]
  rw [after0_7]
  frame_out
  refine Eq.trans ?_ (congrArg (fun i : S2x64x128.Idx => scaleR (colA (m ((c : Thread nD τ).loc main_arg0)) (i 0) (i 1) (i 2))) he.symm)
  refine Eq.trans ?_ (value7 (iblk m c 0 t) (iblk m c 1 t) _ (block1 m c t) (block0 m c t) y)
  generalize k0_pay3 (iblk m c 1 t) = P
  rw [cast_eq]

/-- The packed delta codes. -/
theorem final8 (c : Dev nD) : (dats m 0 c).arrAt 8 cfg0.N = (fun i : S2x384x64x128.Idx =>
    byteR (colA (m ((c : Thread nD τ).loc main_arg0)) (i 0) (i 2) (i 3)) (i 1).val) := by
  refine (dats m 0 c).arrAt_eq_of_covers 8 _ (by decide +kernel) fun t hf y => ?_
  have he : ((cfg0.win 8).blk t).view.emb y = y := by blk_ext [idx8 t]
  rw [after0_8]
  frame_out
  refine Eq.trans ?_ (congrArg (fun i : S2x384x64x128.Idx => byteR (colA (m ((c : Thread nD τ).loc main_arg0)) (i 0) (i 2) (i 3)) (i 1).val) he.symm)
  blk_simp
  exact value8 (iblk m c 0 t) (iblk m c 1 t) (iblk m c 2 t) (iblk m c 3 t) _ (block1 m c t) (block0 m c t) y

/-- The deltas' scales. -/
theorem final9 (c : Dev nD) : (dats m 0 c).arrAt 9 cfg0.N = (fun i : S2x64x128.Idx =>
    dscaleK (dmaxR (colA (m ((c : Thread nD τ).loc main_arg0)) (i 0) (i 1) (i 2)))) := by
  refine (dats m 0 c).arrAt_eq_of_covers 9 _ (by decide +kernel) fun t hf y => ?_
  have he : ((cfg0.win 9).blk t).view.emb y = y := by blk_ext [idx9 t]
  rw [after0_9]
  frame_out
  refine Eq.trans ?_ (congrArg (fun i : S2x64x128.Idx => dscaleK (dmaxR (colA (m ((c : Thread nD τ).loc main_arg0)) (i 0) (i 1) (i 2)))) he.symm)
  refine Eq.trans ?_ (value9 (iblk m c 0 t) (iblk m c 1 t) (iblk m c 2 t) (iblk m c 3 t) _ (block1 m c t) (block0 m c t) y)
  generalize k0_pay8 (k0_pay26 (iblk m c 0 t) (iblk m c 1 t) (iblk m c 2 t) (iblk m c 3 t)) = P
  rw [cast_eq]

/-- The second tensor's decoded tokens. -/
theorem final5 (c : Dev nD) : (dats m 0 c).arrAt 5 cfg0.N = (fun i : S2x768x64x128.Idx =>
    xhatR (colA (m ((c : Thread nD τ).loc main_arg1)) (i 0) (i 2) (i 3)) (i 1).val) := by
  refine (dats m 0 c).arrAt_eq_of_covers 5 _ (by decide +kernel) fun t hf y => ?_
  have he : ((cfg0.win 5).blk t).view.emb y = y := by blk_ext [idx5 t]
  rw [after0_5]
  frame_out
  refine Eq.trans ?_ (congrArg (fun i : S2x768x64x128.Idx => xhatR (colA (m ((c : Thread nD τ).loc main_arg1)) (i 0) (i 2) (i 3)) (i 1).val) he.symm)
  blk_simp
  exact value5 (iblk m c 0 t) (iblk m c 1 t) (iblk m c 2 t) (iblk m c 3 t) _ (block3 m c t) (block2 m c t) y

/-- The second tensor's anchors' codes. -/
theorem final10 (c : Dev nD) : (dats m 0 c).arrAt 10 cfg0.N = (fun i : S2x77x64x128.Idx =>
    codeR (colA (m ((c : Thread nD τ).loc main_arg1)) (i 0) (i 2) (i 3)) (i 1).val) := by
  refine (dats m 0 c).arrAt_eq_of_covers 10 _ (by decide +kernel) fun t hf y => ?_
  have he : ((cfg0.win 10).blk t).view.emb y = y := by blk_ext [idx10 t]
  rw [after0_10]
  frame_out
  refine Eq.trans ?_ (congrArg (fun i : S2x77x64x128.Idx => codeR (colA (m ((c : Thread nD τ).loc main_arg1)) (i 0) (i 2) (i 3)) (i 1).val) he.symm)
  blk_simp
  exact value10 (iblk m c 2 t) (iblk m c 3 t) _ (block3 m c t) (block2 m c t) y

/-- The second tensor's anchors' scales. -/
theorem final11 (c : Dev nD) : (dats m 0 c).arrAt 11 cfg0.N = (fun i : S2x64x128.Idx =>
    scaleR (colA (m ((c : Thread nD τ).loc main_arg1)) (i 0) (i 1) (i 2))) := by
  refine (dats m 0 c).arrAt_eq_of_covers 11 _ (by decide +kernel) fun t hf y => ?_
  have he : ((cfg0.win 11).blk t).view.emb y = y := by blk_ext [idx11 t]
  rw [after0_11]
  frame_out
  refine Eq.trans ?_ (congrArg (fun i : S2x64x128.Idx => scaleR (colA (m ((c : Thread nD τ).loc main_arg1)) (i 0) (i 1) (i 2))) he.symm)
  refine Eq.trans ?_ (value11 (iblk m c 2 t) (iblk m c 3 t) _ (block3 m c t) (block2 m c t) y)
  generalize k0_pay15 (iblk m c 3 t) = P
  rw [cast_eq]

/-- The second tensor's packed delta codes. -/
theorem final12 (c : Dev nD) : (dats m 0 c).arrAt 12 cfg0.N = (fun i : S2x384x64x128.Idx =>
    byteR (colA (m ((c : Thread nD τ).loc main_arg1)) (i 0) (i 2) (i 3)) (i 1).val) := by
  refine (dats m 0 c).arrAt_eq_of_covers 12 _ (by decide +kernel) fun t hf y => ?_
  have he : ((cfg0.win 12).blk t).view.emb y = y := by blk_ext [idx12 t]
  rw [after0_12]
  frame_out
  refine Eq.trans ?_ (congrArg (fun i : S2x384x64x128.Idx => byteR (colA (m ((c : Thread nD τ).loc main_arg1)) (i 0) (i 2) (i 3)) (i 1).val) he.symm)
  blk_simp
  exact value12 (iblk m c 0 t) (iblk m c 1 t) (iblk m c 2 t) (iblk m c 3 t) _ (block3 m c t) (block2 m c t) y

/-- The second tensor's deltas' scales. -/
theorem final13 (c : Dev nD) : (dats m 0 c).arrAt 13 cfg0.N = (fun i : S2x64x128.Idx =>
    dscaleK (dmaxR (colA (m ((c : Thread nD τ).loc main_arg1)) (i 0) (i 1) (i 2)))) := by
  refine (dats m 0 c).arrAt_eq_of_covers 13 _ (by decide +kernel) fun t hf y => ?_
  have he : ((cfg0.win 13).blk t).view.emb y = y := by blk_ext [idx13 t]
  rw [after0_13]
  frame_out
  refine Eq.trans ?_ (congrArg (fun i : S2x64x128.Idx => dscaleK (dmaxR (colA (m ((c : Thread nD τ).loc main_arg1)) (i 0) (i 1) (i 2)))) he.symm)
  refine Eq.trans ?_ (value13 (iblk m c 0 t) (iblk m c 1 t) (iblk m c 2 t) (iblk m c 3 t) _ (block3 m c t) (block2 m c t) y)
  generalize k0_pay21 (k0_pay27 (iblk m c 0 t) (iblk m c 1 t) (iblk m c 2 t) (iblk m c 3 t)) (k0_pay28 (iblk m c 0 t) (iblk m c 1 t) (iblk m c 2 t) (iblk m c 3 t)) (k0_pay29 (iblk m c 0 t) (iblk m c 1 t) (iblk m c 2 t) (iblk m c 3 t)) = P
  rw [cast_eq]

end Cert.ReferenceIdeal.Gen
end
-- ==== Proof.Pow2.lean ====
/-
  Powers of two as binary32 words, and the exponent of the anchors' scale: the kernel counts the powers of two up to the ratio, the
  reference takes the whole part of the ratio's binary logarithm, and the two scales are the same power of two.
-/
module
public import proofs.«01_k».proof.Proof.RefForms
@[expose] public section
set_option maxRecDepth 16384
noncomputable section
namespace Cert.Codec
open Idealize.ShloMosaic

/-- The fields of the word of a power of two. -/
theorem pow2_fields : ∀ j : Fin 255, (BitVec.ofNat 32 (j.val * 8388608)).extractLsb' 31 1 = 0#1
    ∧ ((BitVec.ofNat 32 (j.val * 8388608)).extractLsb' 23 8).toNat = j.val
    ∧ ((BitVec.ofNat 32 (j.val * 8388608)).extractLsb' 0 23).toNat = 0 := by decide +kernel

/-- The word with exponent field `j` and no significand is `2 ^ (j - 127)`. -/
theorem pow2_word (j : ℕ) (h1 : 1 ≤ j) (h2 : j ≤ 254) :
    Ideal.ofBits .f32 (BitVec.ofNat 32 (j * 8388608)) = (((2 : ℝ) ^ ((j : ℤ) - 127) : ℝ) : EReal) := by
  obtain ⟨a, b, c⟩ := pow2_fields ⟨j, by omega⟩
  simp only at a b c
  unfold Ideal.ofBits Ideal.ieee
  simp only [Nat.reduceAdd, a, b, c]
  rw [if_neg (by omega), if_neg (by omega)]
  congr 1
  have e : (j : ℤ) - (2 ^ (8 - 1) - 1) - (23 : ℕ) = (j : ℤ) - 127 + (-23) := by norm_num; ring
  rw [e, zpow_add₀ (by norm_num)]
  norm_num
  ring

/-- The threshold words of the counting loop. -/
theorem thr_word : ∀ n : Fin 254, Scalar.shli (Scf.iv 1#32 1#32 n.val) 23#32 = BitVec.ofNat 32 ((n.val + 1) * 8388608) := by
  decide +kernel

/-- The thresholds of the counting loop are the powers of two from `2 ^ -126` up. -/
theorem thr_eq (n : ℕ) (hn : n < 254) : Ideal.ofBits FTy.f32 (Scalar.shli (Scf.iv 1#32 1#32 n) 23#32)
    = (((2 : ℝ) ^ ((n : ℤ) - 126) : ℝ) : EReal) := by
  rw [thr_word ⟨n, hn⟩, pow2_word _ (by simp) (by simp; omega)]
  congr 2
  simp only
  push_cast
  ring

/-- The last threshold is infinite. -/
theorem thr_last : Ideal.ofBits FTy.f32 (Scalar.shli (Scf.iv 1#32 1#32 254) 23#32) = ⊤ := by
  have e : Scalar.shli (Scf.iv 1#32 1#32 254) 23#32 = 2139095040#32 := by decide +kernel
  rw [e]
  simp [Ideal.ofBits, Ideal.ieee]

/-- Nothing is counted for ratio 0. -/
theorem cnt_zero : ∀ n, n ≤ 254 → cntN 0 n = 0#32
  | 0, _ => rfl
  | n + 1, h => by
    rw [cntN, cnt_zero n (by omega), thr_eq n (by omega), if_pos (by
      rw [← EReal.coe_zero, EReal.coe_lt_coe_iff]; positivity)]
    rfl

/-- Between consecutive powers of two, the powers below are those with a smaller exponent. -/
theorem zpow_le_iff {r : ℝ} {k : ℤ} (h1 : (2 : ℝ) ^ k ≤ r) (h2 : r < (2 : ℝ) ^ (k + 1)) (e : ℤ) : (2 : ℝ) ^ e ≤ r ↔ e ≤ k := by
  constructor
  · intro h
    have : (2 : ℝ) ^ e < (2 : ℝ) ^ (k + 1) := lt_of_le_of_lt h h2
    have := (zpow_lt_zpow_iff_right₀ (by norm_num : (1 : ℝ) < 2)).mp this
    omega
  · intro h
    exact le_trans ((zpow_le_zpow_iff_right₀ (by norm_num : (1 : ℝ) < 2)).mpr h) h1

/-- The count for a ratio from `2 ^ k` up to `2 ^ (k + 1)`: as many powers of two as there are exponents from -126 to `k`. -/
theorem cnt_pos {r : ℝ} {k : ℤ} (h1 : (2 : ℝ) ^ k ≤ r) (h2 : r < (2 : ℝ) ^ (k + 1)) (hk : -127 ≤ k) : ∀ n, n ≤ 254 →
    cntN (r : EReal) n = BitVec.ofNat 32 (min n (k + 127).toNat)
  | 0, _ => by simp [cntN]
  | n + 1, h => by
    rw [cntN, cnt_pos h1 h2 hk n (by omega), thr_eq n (by omega)]
    have key := zpow_le_iff h1 h2 ((n : ℤ) - 126)
    by_cases hc : r < (2 : ℝ) ^ ((n : ℤ) - 126)
    · rw [if_pos (EReal.coe_lt_coe_iff.mpr hc)]
      have : ¬ ((n : ℤ) - 126 ≤ k) := fun hh => absurd (key.mpr hh) (not_le.mpr hc)
      rw [min_eq_right (by omega), min_eq_right (by omega)]
      exact BitVec.add_zero _
    · rw [if_neg (fun hh => hc (EReal.coe_lt_coe_iff.mp hh))]
      have : (n : ℤ) - 126 ≤ k := key.mp (not_lt.mp hc)
      rw [min_eq_left (by omega), min_eq_left (by omega)]
      show BitVec.ofNat 32 n + 1#32 = _
      rw [BitVec.ofNat_add]

/-- The whole part of the binary logarithm of a ratio from `2 ^ k` up to `2 ^ (k + 1)`. -/
theorem floor_log {r : ℝ} {k : ℤ} (h1 : (2 : ℝ) ^ k ≤ r) (h2 : r < (2 : ℝ) ^ (k + 1)) : ⌊Real.log r / Real.log 2⌋ = k := by
  have l2 : 0 < Real.log 2 := Real.log_pos (by norm_num)
  have p : (0 : ℝ) < (2 : ℝ) ^ k := by positivity
  have hr : 0 < r := lt_of_lt_of_le p h1
  rw [Int.floor_eq_iff, le_div_iff₀ l2, div_lt_iff₀ l2]
  constructor
  · rw [← Real.log_zpow]
    exact Real.log_le_log p h1
  · have := Real.log_lt_log hr h2
    rw [Real.log_zpow] at this
    push_cast at this
    exact this

/-- The words of the scale and of its inverse, from the count. -/
theorem exp_words : ∀ N : Fin 253,
    (N.val ≠ 0 → IntOp.shli ArithUnit.vector (IntOp.addi (127#32) (expK (BitVec.ofNat 32 N.val))) 23#32 = BitVec.ofNat 32 ((N.val + 1) * 8388608)
      ∧ IntOp.shli ArithUnit.vector (IntOp.subi (127#32) (expK (BitVec.ofNat 32 N.val))) 23#32 = BitVec.ofNat 32 ((253 - N.val) * 8388608)) := by
  decide +kernel

/-- The constant of the ratio, a little above 1/448. -/
theorem recip_word : Ideal.ofBits .f32 991054117#32 = ((9586981 / 4294967296 : ℝ) : EReal) := by
  unfold Ideal.ofBits Ideal.ieee
  simp
  rw [← EReal.coe_mul]
  norm_num

/-- The smallest magnitude allowed: 448 times the smallest normal number. -/
theorem low_word : Ideal.ofBits .f32 81788928#32 = ((448 * (2 : ℝ) ^ (-126 : ℤ) : ℝ) : EReal) := by
  unfold Ideal.ofBits Ideal.ieee
  simp
  rw [← EReal.coe_mul, ← EReal.coe_mul]
  norm_num

/-- The largest magnitude allowed. -/
theorem high_word : Ideal.ofBits .f32 2139029504#32 = ((16711680 * (2 : ℝ) ^ (104 : ℤ) : ℝ) : EReal) := by
  unfold Ideal.ofBits Ideal.ieee
  simp

/-- Two, as a word. -/
theorem two_word : Ideal.ofBits .f32 1073741824#32 = ((2 : ℝ) : EReal) := by
  unfold Ideal.ofBits Ideal.ieee
  simp
  rw [← EReal.coe_mul]
  norm_num

/-- What the two codecs agree on about a column: the scale is a power of two, written down by the kernel as words, by the reference as
    powers of its exponent, and the inverse is that of the opposite exponent. -/
theorem scales_agree (a : EReal) (h : a = 0 ∨ (Ideal.ofBits .f32 81788928#32 ≤ a ∧ a ≤ Ideal.ofBits .f32 2139029504#32)) :
    ∃ e : ℤ, scaleK (cntN (a * Ideal.ofBits .f32 991054117#32) 255) = (((2 : ℝ) ^ e : ℝ) : EReal)
      ∧ invK (cntN (a * Ideal.ofBits .f32 991054117#32) 255) = (((2 : ℝ) ^ (-e) : ℝ) : EReal)
      ∧ Ideal.exp2 (expR a) = (((2 : ℝ) ^ e : ℝ) : EReal)
      ∧ Ideal.exp2 (0 - expR a) = (((2 : ℝ) ^ (-e) : ℝ) : EReal) := by
  rcases h with h | ⟨hl, hu⟩
  · subst h
    refine ⟨0, ?_⟩
    rw [zero_mul, cntN, cnt_zero 254 le_rfl, thr_last, if_pos EReal.zero_lt_top]
    have e1 : IntOp.shli ArithUnit.vector (IntOp.addi (127#32) (expK (IntOp.addi 0#32 0#32))) 23#32 = BitVec.ofNat 32 (127 * 8388608) := by decide +kernel
    have e2 : IntOp.shli ArithUnit.vector (IntOp.subi (127#32) (expK (IntOp.addi 0#32 0#32))) 23#32 = BitVec.ofNat 32 (127 * 8388608) := by decide +kernel
    refine ⟨?_, ?_, ?_, ?_⟩
    · rw [scaleK, e1, pow2_word _ (by norm_num) (by norm_num)]
      norm_num
    · rw [invK, e2, pow2_word _ (by norm_num) (by norm_num)]
      norm_num
    · rw [expR, if_pos rfl, ← EReal.coe_zero, Ideal.exp2_coe]
      simp
    · rw [expR, if_pos rfl, sub_zero, ← EReal.coe_zero, Ideal.exp2_coe]
      simp
  · rw [low_word] at hl
    rw [high_word] at hu
    induction a using EReal.rec with
    | bot => exact absurd (le_bot_iff.mp hl) (EReal.coe_ne_bot _)
    | top => exact absurd (top_le_iff.mp hu) (EReal.coe_ne_top _)
    | coe x =>
      rw [EReal.coe_le_coe_iff] at hl hu
      have hx : 0 < x := lt_of_lt_of_le (by positivity) hl
      have hr : (0 : ℝ) < x * (9586981 / 4294967296) := by positivity
      have hlo : (2 : ℝ) ^ (-126 : ℤ) ≤ x * (9586981 / 4294967296) := by
        have : 448 * (2 : ℝ) ^ (-126 : ℤ) * (9586981 / 4294967296) ≤ x * (9586981 / 4294967296) :=
          mul_le_mul_of_nonneg_right hl (by norm_num)
        have h3 : (0 : ℝ) < (2 : ℝ) ^ (-126 : ℤ) := by positivity
        nlinarith
      have hhi : x * (9586981 / 4294967296) < (2 : ℝ) ^ (120 : ℤ) := by
        have : x * (9586981 / 4294967296) ≤ 16711680 * (2 : ℝ) ^ (104 : ℤ) * (9586981 / 4294967296) :=
          mul_le_mul_of_nonneg_right hu (by norm_num)
        refine lt_of_le_of_lt this ?_
        norm_num
      obtain ⟨k, hk1, hk2⟩ := exists_mem_Ico_zpow hr (by norm_num : (1 : ℝ) < 2)
      have b1 : -126 ≤ k := (zpow_le_iff hk1 hk2 _).mp hlo
      have b2 : k < 120 := by
        have : (2 : ℝ) ^ k < (2 : ℝ) ^ (120 : ℤ) := lt_of_le_of_lt hk1 hhi
        exact (zpow_lt_zpow_iff_right₀ (by norm_num : (1 : ℝ) < 2)).mp this
      have he : expR (x : EReal) = (((k + 1 : ℤ) : ℝ) : EReal) := by
        rw [expR, if_neg (by exact_mod_cast hx.ne'), recip_word, two_word, ← EReal.coe_mul, Ideal.log_coe, if_neg (not_le.mpr hr),
          Ideal.log_coe, if_neg (by norm_num), Ideal.div_coe (Real.log_pos (by norm_num)).ne', ← EReal.coe_mul, mul_one_div,
          Ideal.liftRound_coe, floor_log hk1 hk2, ← EReal.coe_one, ← EReal.coe_add]
        push_cast
        rfl
      refine ⟨k + 1, ?_⟩
      rw [he, recip_word, ← EReal.coe_mul, cntN, cnt_pos hk1 hk2 (by omega) 254 le_rfl, thr_last, if_pos (EReal.coe_lt_top _),
        min_eq_right (by omega)]
      obtain ⟨w1, w2⟩ := exp_words ⟨(k + 127).toNat, by omega⟩ (by simp only; omega)
      have e0 : ∀ w : BitVec 32, IntOp.addi w 0#32 = w := fun w => BitVec.add_zero w
      rw [e0]
      simp only at w1 w2
      refine ⟨?_, ?_, ?_, ?_⟩
      · rw [scaleK, w1, pow2_word _ (by omega) (by omega)]
        congr 2
        omega
      · rw [invK, w2, pow2_word _ (by omega) (by omega)]
        congr 2
        omega
      · rw [Ideal.exp2_coe]
        congr 1
        exact Real.rpow_intCast 2 (k + 1)
      · rw [← EReal.coe_zero, ← EReal.coe_sub, Ideal.exp2_coe, zero_sub]
        congr 1
        rw [← Int.cast_neg]
        exact Real.rpow_intCast 2 (-(k + 1))

end Cert.Codec
end
-- ==== Proof.CodecEq.lean ====
/-
  The kernel's codec of a column and the reference's are the same, when the anchors' largest magnitude is 0 or in the range of the precondition.
-/
module
public import proofs.«01_k».proof.Proof.Pow2
@[expose] public section
set_option maxRecDepth 16384
noncomputable section
namespace Cert.Codec
open Idealize.ShloMosaic

/-- The reductions start at negative infinity. -/
theorem start_word : Ideal.ofBits .f32 4286578688#32 = ⊥ := by
  unfold Ideal.ofBits Ideal.ieee
  simp

/-- A magnitude is not negative. -/
theorem mag_nonneg (x : EReal) : 0 ≤ mag x := by
  rcases le_total 0 x with h | h
  · exact le_max_of_le_left h
  · exact le_max_of_le_right (EReal.neg_nonneg.mpr h)

/-- A fold of the maximum from negative infinity, by its upper bounds. -/
theorem fold_le {n : ℕ} (f : Fin n → EReal) (z : EReal) :
    Finset.univ.fold max (Ideal.ofBits .f32 4286578688#32) f ≤ z ↔ ∀ g, f g ≤ z := by
  rw [Finset.fold_max_le, start_word]
  simp

/-- The kernel's running maximum, by its upper bounds. -/
theorem amaxN_le (X : ℕ → EReal) (z : EReal) : ∀ n, amaxN X n ≤ z ↔ 0 ≤ z ∧ ∀ g, g < n → mag (X (10 * g)) ≤ z
  | 0 => by simp [amaxN]
  | n + 1 => by
    rw [amaxN, max_le_iff, amaxN_le X z n]
    constructor
    · rintro ⟨⟨h0, h⟩, hn⟩
      refine ⟨h0, fun g hg => ?_⟩
      rcases Nat.lt_succ_iff_lt_or_eq.mp hg with hg | rfl
      · exact h g hg
      · exact hn
    · rintro ⟨h0, h⟩
      exact ⟨⟨h0, fun g hg => h g (by omega)⟩, h n (by omega)⟩

/-- The largest magnitudes of the anchors agree. -/
theorem amax_eq (X : ℕ → EReal) : amaxN X 77 = amaxR X := by
  refine eq_of_forall_ge_iff fun z => ?_
  rw [amaxN_le, amaxR, fold_le]
  constructor
  · exact fun h g => h.2 g.val g.isLt
  · exact fun h => ⟨le_trans (mag_nonneg _) (h 0), fun g hg => h ⟨g, hg⟩⟩

/-- The largest token of a group less a value, by its upper bounds. -/
theorem hiN_sub_le (X : ℕ → EReal) (t : ℕ) (d z : EReal) : ∀ n, hiN X t n - d ≤ z ↔ ∀ i, i ≤ n → X (t + i) - d ≤ z
  | 0 => by
    constructor
    · intro h i hi
      obtain rfl : i = 0 := by omega
      exact h
    · exact fun h => h 0 le_rfl
  | n + 1 => by
    have mono : Monotone fun x : EReal => x - d := fun a b h => EReal.sub_le_sub h le_rfl
    rw [hiN, mono.map_max, max_le_iff, hiN_sub_le X t d z n]
    constructor
    · rintro ⟨h, hn⟩ i hi
      rcases Nat.le_succ_iff_eq_or_le.mp hi with rfl | hi
      · exact hn
      · exact h i hi
    · exact fun h => ⟨fun i hi => h i (by omega), h (n + 1) le_rfl⟩

/-- A value less the smallest token of a group, by its upper bounds. -/
theorem sub_loN_le (X : ℕ → EReal) (t : ℕ) (d z : EReal) : ∀ n, d - loN X t n ≤ z ↔ ∀ i, i ≤ n → d - X (t + i) ≤ z
  | 0 => by
    constructor
    · intro h i hi
      obtain rfl : i = 0 := by omega
      exact h
    · exact fun h => h 0 le_rfl
  | n + 1 => by
    have anti : Antitone fun x : EReal => d - x := fun a b h => EReal.sub_le_sub le_rfl h
    rw [loN, anti.map_min, max_le_iff, sub_loN_le X t d z n]
    constructor
    · rintro ⟨h, hn⟩ i hi
      rcases Nat.le_succ_iff_eq_or_le.mp hi with rfl | hi
      · exact hn
      · exact h i hi
    · exact fun h => ⟨fun i hi => h i (by omega), h (n + 1) le_rfl⟩

/-- The magnitude of a difference from a real. -/
theorem mag_sub_le (x : EReal) (d : ℝ) (z : EReal) : mag (x - d) ≤ z ↔ x - d ≤ z ∧ d - x ≤ z := by
  rw [max_le_iff, EReal.neg_sub (Or.inr (EReal.coe_ne_bot d)) (Or.inr (EReal.coe_ne_top d)), add_comm, ← sub_eq_add_neg]

/-- The kernel's running maximum of the deltas' magnitudes, by its upper bounds. -/
theorem dmaxN_le (X : ℕ → EReal) (hd : ∀ g, ∃ d : ℝ, deqX X g = d) (z : EReal) :
    ∀ n, dmaxN X n ≤ z ↔ 0 ≤ z ∧ ∀ g, g < n → ∀ i, i ≤ restOf g → mag (X (10 * g + i) - deqX X g) ≤ z
  | 0 => by simp [dmaxN]
  | n + 1 => by
    have e : max (hiG X n - deqX X n) (deqX X n - loG X n) ≤ z ↔ ∀ i, i ≤ restOf n → mag (X (10 * n + i) - deqX X n) ≤ z := by
      obtain ⟨d, h⟩ := hd n
      rw [max_le_iff, hiG, loG, hiN_sub_le, sub_loN_le, h]
      constructor
      · exact fun hh i hi => (mag_sub_le _ _ _).mpr ⟨hh.1 i hi, hh.2 i hi⟩
      · exact fun hh => ⟨fun i hi => ((mag_sub_le _ _ _).mp (hh i hi)).1, fun i hi => ((mag_sub_le _ _ _).mp (hh i hi)).2⟩
    rw [dmaxN, max_le_iff, dmaxN_le X hd z n, e]
    constructor
    · rintro ⟨⟨h0, h⟩, hn⟩
      refine ⟨h0, fun g hg => ?_⟩
      rcases Nat.lt_succ_iff_lt_or_eq.mp hg with hg | rfl
      · exact h g hg
      · exact hn
    · rintro ⟨h0, h⟩
      exact ⟨⟨h0, fun g hg => h g (by omega)⟩, h n (by omega)⟩

/-- Dividing is multiplying by the inverse, off zero. -/
theorem mul_recip (x d : EReal) (hd : d ≠ 0) : x * Ideal.div 1 d = Ideal.div x d := by
  unfold Ideal.div
  rw [if_neg hd, if_neg hd, one_mul]

/-- Seven, as a word. -/
theorem seven_word : Ideal.ofBits .f32 1088421888#32 = ((7 : ℝ) : EReal) := by
  unfold Ideal.ofBits Ideal.ieee
  simp
  rw [← EReal.coe_mul]
  norm_num

/-- Minus seven, as a word. -/
theorem minus_seven_word : Ideal.ofBits .f32 3235905536#32 = ((-7 : ℝ) : EReal) := by
  unfold Ideal.ofBits Ideal.ieee
  simp
  rw [← EReal.coe_mul]
  norm_num

/-- The bound of the codes, as words. -/
theorem clip_words : Ideal.ofBits .f32 1138753536#32 = ((448 : ℝ) : EReal) ∧ Ideal.ofBits .f32 3286237184#32 = ((-448 : ℝ) : EReal) := by
  unfold Ideal.ofBits Ideal.ieee
  constructor
  · simp
    rw [← EReal.coe_mul]
    norm_num
  · simp
    rw [← EReal.coe_mul]
    norm_num

/-- The offset of the kernel's delta codes, as a word. -/
theorem offset_word : Ideal.ofBits .bf16 17216#16 = ((192 : ℝ) : EReal) := by
  unfold Ideal.ofBits Ideal.ieee
  simp

/-- The deltas' scale is never 0. -/
theorem dscale_ne (d : EReal) (h : 0 ≤ d) : dscaleK d ≠ 0 := by
  unfold dscaleK
  split
  · exact one_ne_zero
  · next hd =>
    rw [seven_word, Ideal.div_coe (by norm_num)]
    exact (EReal.mul_pos (lt_of_le_of_ne h (Ne.symm hd)) (by exact_mod_cast (by norm_num : (0 : ℝ) < 1 / 7))).ne'

/-- A clipped value is a real. -/
theorem clip_real (x : EReal) : ∃ d : ℝ, min (Ideal.ofBits FTy.f32 1138753536#32) (max (Ideal.ofBits FTy.f32 3286237184#32) x) = d := by
  rw [clip_words.1, clip_words.2]
  refine ⟨_, (EReal.coe_toReal ?_ ?_).symm⟩
  · exact (lt_of_le_of_lt (min_le_left _ _) (EReal.coe_lt_top _)).ne
  · exact (lt_of_lt_of_le (EReal.bot_lt_coe (-448)) (le_min (by exact_mod_cast (by norm_num : (-448 : ℝ) ≤ 448)) (le_max_left _ _))).ne'

/-- A delta code is an integer from -7 to 7. -/
theorem code_int (z : EReal) : ∃ i : ℤ, -7 ≤ i ∧ i ≤ 7 ∧
    min (Ideal.ofBits FTy.f32 1088421888#32) (max (Ideal.ofBits FTy.f32 3235905536#32) (Ideal.liftRound Ideal.roundHalfEven z)) = ((i : ℝ) : EReal) := by
  rw [seven_word, minus_seven_word]
  induction z using EReal.rec with
  | bot =>
    refine ⟨-7, le_rfl, by norm_num, ?_⟩
    rw [Ideal.liftRound_bot, max_eq_left bot_le, min_eq_right (by exact_mod_cast (by norm_num : (-7 : ℝ) ≤ 7))]
    norm_num
  | top =>
    refine ⟨7, by norm_num, le_rfl, ?_⟩
    rw [Ideal.liftRound_top, max_eq_right le_top, min_eq_left le_top]
    norm_num
  | coe r =>
    refine ⟨min 7 (max (-7) (Ideal.roundHalfEven r)), by omega, by omega, ?_⟩
    rw [Ideal.liftRound_coe]
    push_cast
    rfl

/-- Reading an integer as a signed word, when it fits. -/
theorem fptosi_int (w : ℕ) (i : ℤ) (h1 : -(2 ^ (w - 1) : ℕ) ≤ i) (h2 : i ≤ (2 ^ (w - 1) : ℕ) - 1) :
    Ideal.fptosi w ((i : ℝ) : EReal) = BitVec.ofInt w i := by
  unfold Ideal.fptosi
  rw [Ideal.toIntClamped_coe]
  have : (if (0 : ℝ) ≤ (i : ℝ) then ⌊(i : ℝ)⌋ else ⌈(i : ℝ)⌉) = i := by split <;> simp
  rw [this, min_eq_right h2, max_eq_right h1]

/-- The kernel's byte of two delta codes is the reference's. -/
theorem byte_table : ∀ a b : Fin 15,
    IntOp.ori (IntOp.andi (BitVec.setWidth 8 (BitVec.setWidth 16 (IntOp.addi (BitVec.ofInt 32 ((a.val : ℤ) - 7 + 192)) 17024#32))) 15#8)
      (IntOp.shli ArithUnit.vector (BitVec.setWidth 8 (BitVec.setWidth 16 (IntOp.addi (BitVec.ofInt 32 ((b.val : ℤ) - 7 + 192)) 17024#32))) 4#8)
    = BitVec.setWidth 8 (IntOp.ori (IntOp.andi (BitVec.signExtend 32 (BitVec.ofInt 8 ((a.val : ℤ) - 7))) 15#32)
      (IntOp.shli ArithUnit.vector (IntOp.andi (BitVec.signExtend 32 (BitVec.ofInt 8 ((b.val : ℤ) - 7))) 15#32) 4#32)) := by
  decide +kernel

/-- A small integer's word of 8 bits, read back. -/
theorem toInt_table : ∀ a : Fin 15, (BitVec.ofInt 8 ((a.val : ℤ) - 7)).toInt = (a.val : ℤ) - 7 := by decide +kernel

/-- Integers from -7 to 7, numbered. -/
theorem int_num (i : ℤ) (h1 : -7 ≤ i) (h2 : i ≤ 7) : ∃ a : Fin 15, i = (a.val : ℤ) - 7 :=
  ⟨⟨(i + 7).toNat, by omega⟩, by simp only; omega⟩

/-- A delta code as the kernel's byte. -/
theorem nib_int (i : ℤ) (h1 : -7 ≤ i) (h2 : i ≤ 7) :
    nibK ((i : ℝ) : EReal) = BitVec.setWidth 8 (BitVec.setWidth 16 (IntOp.addi (BitVec.ofInt 32 (i + 192)) 17024#32)) := by
  have e : ((i : ℝ) : EReal) + Ideal.ofBits .bf16 17216#16 = (((i + 192 : ℤ) : ℝ) : EReal) := by
    rw [offset_word, ← EReal.coe_add]
    push_cast
    rfl
  unfold nibK
  rw [e]
  show BitVec.setWidth 8 (BitVec.setWidth 16 (IntOp.addi (Ideal.fptosi 32 (((i + 192 : ℤ) : ℝ) : EReal)) 17024#32)) = _
  rw [fptosi_int 32 _ (by norm_num; omega) (by norm_num; omega)]

section
variable (X : ℕ → EReal) (h : amaxR X = 0 ∨ (Ideal.ofBits .f32 81788928#32 ≤ amaxR X ∧ amaxR X ≤ Ideal.ofBits .f32 2139029504#32))
include h

/-- The anchors' scales agree. -/
theorem scale_eq : scaleK (cntX X) = scaleR X := by
  obtain ⟨e, h1, _, h3, _⟩ := scales_agree _ h
  rw [cntX, amax_eq, scaleR, h1, h3]

/-- The anchors' codes agree. -/
theorem code_eq (g : ℕ) : codeX X g = codeR X g := by
  obtain ⟨e, _, h2, _, h4⟩ := scales_agree _ h
  rw [codeX, codeR, cntX, amax_eq, h2, h4]

/-- The decoded anchors agree. -/
theorem deq_eq (g : ℕ) : deqX X g = deqR X g := by
  rw [deqX, deqR, code_eq X h, scale_eq X h]

/-- The decoded anchors are reals. -/
theorem deq_real (g : ℕ) : ∃ d : ℝ, deqX X g = d := by
  obtain ⟨e, h1, _, _, _⟩ := scales_agree _ h
  obtain ⟨d, hd⟩ := clip_real (X (10 * g) * invK (cntX X))
  refine ⟨d * (2 : ℝ) ^ e, ?_⟩
  rw [deqX, codeX, codeK, hd, cntX, amax_eq, h1, EReal.coe_mul]

/-- The largest magnitudes of the deltas agree. -/
theorem dmax_eq : dmaxN X 77 = dmaxR X := by
  refine eq_of_forall_ge_iff fun z => ?_
  rw [dmaxN_le X (deq_real X h), dmaxR, fold_le]
  constructor
  · intro hh t
    have := hh.2 (t.val / 10) (by omega) (t.val % 10) (by unfold restOf; split <;> omega)
    rw [show 10 * (t.val / 10) + t.val % 10 = t.val by omega, deq_eq X h] at this
    exact this
  · intro hh
    refine ⟨le_trans (mag_nonneg _) (hh 0), fun g hg i hi => ?_⟩
    have hb : 10 * g + i < 768 ∧ i < 10 := by
      unfold restOf at hi
      split at hi <;> omega
    have := hh ⟨10 * g + i, hb.1⟩
    simp only at this
    rw [show (10 * g + i) / 10 = g by omega, ← deq_eq X h] at this
    exact this

/-- The deltas' scales agree. -/
theorem dscale_eq : dscaleX X = dscaleK (dmaxR X) := by rw [dscaleX, dmax_eq X h]

/-- A token's delta code: the kernel's is an integer from -7 to 7 and the reference's its word. -/
theorem q_eq (t : ℕ) : ∃ a : Fin 15, qX X t = ((((a.val : ℤ) - 7 : ℤ) : ℝ) : EReal) ∧ qR X t = BitVec.ofInt 8 ((a.val : ℤ) - 7) := by
  obtain ⟨i, h1, h2, hq⟩ := code_int (Ideal.div (X t - deqR X (t / 10)) (dscaleK (dmaxR X)))
  obtain ⟨a, rfl⟩ := int_num i h1 h2
  have d0 : (0 : EReal) ≤ dmaxR X := by
    rw [← dmax_eq X h]
    exact ((dmaxN_le X (deq_real X h) _ 77).mp le_rfl).1
  refine ⟨a, ?_, ?_⟩
  · rw [qX, qK, dscale_eq X h, mul_recip _ _ (dscale_ne _ d0), deq_eq X h, hq]
  · rw [qR, hq]
    exact fptosi_int 8 _ (by norm_num; omega) (by norm_num; omega)

/-- The decoded tokens agree. -/
theorem xhat_eq (t : ℕ) : xhatX X t = xhatR X t := by
  obtain ⟨a, h1, h2⟩ := q_eq X h t
  rw [xhatX, xhatR, deq_eq X h, dscale_eq X h, h1, h2]
  refine congrArg (fun q : EReal => deqR X (t / 10) + q * dscaleK (dmaxR X)) ?_
  show _ = (((BitVec.ofInt 8 ((a.val : ℤ) - 7)).toInt : ℝ) : EReal)
  rw [toInt_table]

/-- The bytes agree. -/
theorem byte_eq (p : ℕ) : byteX X p = byteR X p := by
  obtain ⟨a, a1, a2⟩ := q_eq X h (2 * p)
  obtain ⟨b, b1, b2⟩ := q_eq X h (2 * p + 1)
  rw [byteX, byteR, byteK, a1, a2, b1, b2, nib_int _ (by omega) (by omega), nib_int _ (by omega) (by omega), byte_table]

end
end Cert.Codec
end
-- ==== Proof.Anchors.lean ====
/-
  The precondition, column by column: the anchors' largest magnitude is 0 or in the range.
-/
module
public import proofs.«01_k».proof.Pre_anchors_in_range
public import proofs.«01_k».proof.Proof.RefForms
public import Idealize.ShloMosaic.Lib.Pointwise
@[expose] public section
set_option maxRecDepth 16384
noncomputable section
namespace Cert.Pre_anchors_in_range
open Idealize.ShloMosaic Idealize.ShloMosaic.Tactic
open Cert.Codec

/-- The side conditions the precondition states. -/
instance facts : Facts where
  slicesBy_S2x768x64x128_S2x77x64x128_0s1_0s10_0s1_0s1 := by decide +kernel
  bitsLt_bf16_f32 := by decide
  reducesTo_S2x77x64x128_S2x64x128_d1 := by decide +kernel
  h_S_ := by decide
  bcast_S_S2x64x128 := by decide +kernel

/-- The reduced axis, as the reductions inside a kernel state it. -/
theorem reduces_axis : S2x77x64x128.Reduces [1] S2x64x128 := by decide +kernel

/-- The largest of the anchors along a column. -/
theorem max_at (v : FVec Ideal S2x77x64x128 .f32) (w : FVec Ideal S_ .f32) (b : Fin 2) (h : Fin 64) (l : Fin 128) :
    Host.reduce (FloatOps.maximumf (F := Ideal) (φ := .f32)) v w Facts.reducesTo_S2x77x64x128_S2x64x128_d1 Facts.h_S_ (ix3 b h l)
      = Finset.univ.fold max (w (Shape.Idx.first Facts.h_S_)) fun g : Fin 77 => v (ix4 b g h l) := by
  refine (Host.reduce_eq_fold_single (α := EReal) max v w Facts.reducesTo_S2x77x64x128_S2x64x128_d1 reduces_axis Facts.h_S_ (ix3 b h l)).trans ?_
  refine congrArg (fun f : Fin 77 → EReal => Finset.univ.fold max (w (Shape.Idx.first Facts.h_S_)) f) (funext fun g => congrArg v ?_)
  funext a
  fin_cases a <;> rfl

/-- An anchor's magnitude. -/
theorem anchor_at (k : FVec Ideal S2x768x64x128 .bf16) (b : Fin 2) (g : Fin 77) (h : Fin 64) (l : Fin 128) :
    Host.absf (extf .f32 (Host.slice S2x77x64x128 ![0, 0, 0, 0] ![1, 10, 1, 1] k Facts.slicesBy_S2x768x64x128_S2x77x64x128_0s1_0s10_0s1_0s1)
      Facts.bitsLt_bf16_f32) (ix4 b g h l) = mag (colA k b h l (10 * g.val)) := by
  have hg : 10 * g.val < 768 := by omega
  rw [colA, dif_pos hg]
  pointwise
  rfl

/-- The comparison's result, from the value compared. -/
theorem range_of (a : EReal)
    (h : IntOp.ori (Ideal.cmp .oeq a (Ideal.ofBits .f32 0#32))
      (IntOp.andi (Ideal.cmp .oge a (Ideal.ofBits .f32 81788928#32)) (Ideal.cmp .ole a (Ideal.ofBits .f32 2139029504#32))) = 1#1) :
    a = 0 ∨ (Ideal.ofBits .f32 81788928#32 ≤ a ∧ a ≤ Ideal.ofBits .f32 2139029504#32) := by
  rw [Ideal.ofBits_zero_f32] at h
  by_contra hc
  rw [not_or, not_and_or] at hc
  obtain ⟨h0, h1⟩ := hc
  rcases h1 with h1 | h1 <;> simp [Ideal.cmp, h0, h1, IntOp.ori, IntOp.andi] at h

/-- The test at an index, from the largest magnitude there. -/
theorem test_at (A : FVec Ideal S2x64x128 .f32) (i : S2x64x128.Idx) :
    ori (cmpf .oeq A (broadcastInDim S2x64x128 ![] Facts.bcast_S_S2x64x128 (constant (F := Ideal) S_ .f32 0x00000000#32)))
      (andi (cmpf .oge A (broadcastInDim S2x64x128 ![] Facts.bcast_S_S2x64x128 (constant (F := Ideal) S_ .f32 0x04E00000#32)))
        (cmpf .ole A (broadcastInDim S2x64x128 ![] Facts.bcast_S_S2x64x128 (constant (F := Ideal) S_ .f32 0x7F7F0000#32)))) i
      = IntOp.ori (Ideal.cmp .oeq (A i) (Ideal.ofBits .f32 0#32))
        (IntOp.andi (Ideal.cmp .oge (A i) (Ideal.ofBits .f32 81788928#32)) (Ideal.cmp .ole (A i) (Ideal.ofBits .f32 2139029504#32))) := by
  unfold ori andi cmpf broadcastInDim constant
  generalize A i = a
  rfl

/-- The largest of a tensor's anchors' magnitudes. -/
def largest (k : FVec Ideal S2x768x64x128 .bf16) : FVec Ideal S2x64x128 .f32 :=
  Host.reduce (FloatOps.maximumf (F := Ideal) (φ := .f32)) (Host.absf (extf .f32 (Host.slice S2x77x64x128 ![0, 0, 0, 0] ![1, 10, 1, 1] k Facts.slicesBy_S2x768x64x128_S2x77x64x128_0s1_0s10_0s1_0s1)
      Facts.bitsLt_bf16_f32)) (constant S_ .f32 0xFF800000#32) Facts.reducesTo_S2x77x64x128_S2x64x128_d1 Facts.h_S_

/-- One tensor's test. -/
def test (k : FVec Ideal S2x768x64x128 .bf16) : IVec S2x64x128 1 :=
  (ori (cmpf .oeq (largest k) (broadcastInDim S2x64x128 ![] Facts.bcast_S_S2x64x128 (constant (F := Ideal) S_ .f32 0x00000000#32)))
      (andi (cmpf .oge (largest k) (broadcastInDim S2x64x128 ![] Facts.bcast_S_S2x64x128 (constant (F := Ideal) S_ .f32 0x04E00000#32)))
        (cmpf .ole (largest k) (broadcastInDim S2x64x128 ![] Facts.bcast_S_S2x64x128 (constant (F := Ideal) S_ .f32 0x7F7F0000#32)))))

/-- The precondition is both tensors' tests. -/
theorem fn_eq (k v : FVec Ideal S2x768x64x128 .bf16) : fn (F := Ideal) k v = andi (test k) (test v) := rfl

/-- Of a conjunction that holds, both hold. -/
theorem both_of (x y : BitVec 1) (h : IntOp.andi x y = 1#1) : x = 1#1 ∧ y = 1#1 := by
  unfold IntOp.andi at h
  revert x y
  decide

/-- Both tests hold everywhere. -/
theorem tests_of (k v : FVec Ideal S2x768x64x128 .bf16) (h : fn (F := Ideal) k v = fun _ => 1#1) :
    test k = (fun _ => 1#1) ∧ test v = (fun _ => 1#1) := by
  rw [fn_eq] at h
  exact ⟨funext fun i => (both_of _ _ (congrFun h i)).1, funext fun i => (both_of _ _ (congrFun h i)).2⟩

/-- The precondition, along one column. -/
theorem range_at (k : FVec Ideal S2x768x64x128 .bf16) (hk : test k = fun _ => 1#1) (b : Fin 2) (h : Fin 64) (l : Fin 128) :
    amaxR (colA k b h l) = 0 ∨ (Ideal.ofBits .f32 81788928#32 ≤ amaxR (colA k b h l) ∧ amaxR (colA k b h l) ≤ Ideal.ofBits .f32 2139029504#32) := by
  have e := max_at (Host.absf (extf .f32 (Host.slice S2x77x64x128 ![0, 0, 0, 0] ![1, 10, 1, 1] k Facts.slicesBy_S2x768x64x128_S2x77x64x128_0s1_0s10_0s1_0s1)
      Facts.bitsLt_bf16_f32)) (constant S_ .f32 0xFF800000#32) b h l
  have ha : amaxR (colA k b h l) = Finset.univ.fold max ((constant (F := Ideal) S_ .f32 0xFF800000#32) (Shape.Idx.first Facts.h_S_)) fun g : Fin 77 =>
      Host.absf (extf .f32 (Host.slice S2x77x64x128 ![0, 0, 0, 0] ![1, 10, 1, 1] k Facts.slicesBy_S2x768x64x128_S2x77x64x128_0s1_0s10_0s1_0s1)
      Facts.bitsLt_bf16_f32) (ix4 b g h l) := by
    unfold amaxR
    exact congrArg (fun f : Fin 77 → EReal => Finset.univ.fold max (Ideal.ofBits .f32 4286578688#32) f) (funext fun g => (anchor_at k b g h l).symm)
  rw [← ha] at e
  have hf := congrFun hk (ix3 b h l)
  refine range_of _ ?_
  rw [← e]
  exact (test_at _ _).symm.trans hf

end Cert.Pre_anchors_in_range
end
-- ==== Proof.Claims.lean ====
/-
  The kernel and the reference end with equal results.
-/
module
public import proofs.«01_k».proof.Defs
public import proofs.«01_k».proof.Proof.Run
public import proofs.«01_k».proof.Proof.RefValue
public import proofs.«01_k».proof.Proof.CodecEq
public import proofs.«01_k».proof.Proof.Anchors
@[expose] public section
set_option maxRecDepth 16384
noncomputable section
namespace Cert
open Idealize.ShloMosaic Idealize.SL.Sem
open Cert.Codec

/-- The reference's run, its ten results and its arguments named. -/
theorem reference_values (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v2_0) = (fun i : ReferenceIdeal.S2x768x64x128.Idx => xhatR (colA (m ((c.tc : Thread ReferenceIdeal.nD ReferenceIdeal.τ).loc ReferenceIdeal.main_arg0)) (i 0) (i 2) (i 3)) (i 1).val)
      ∧ r.2.mem ((c.tc : Thread ReferenceIdeal.nD ReferenceIdeal.τ).loc ReferenceIdeal.main_v2_1) = (fun i : ReferenceIdeal.S2x768x64x128.Idx => xhatR (colA (m ((c.tc : Thread ReferenceIdeal.nD ReferenceIdeal.τ).loc ReferenceIdeal.main_arg1)) (i 0) (i 2) (i 3)) (i 1).val)
      ∧ r.2.mem ((c.tc : Thread ReferenceIdeal.nD ReferenceIdeal.τ).loc ReferenceIdeal.main_v2_2) = (fun i : ReferenceIdeal.S2x77x64x128.Idx => codeR (colA (m ((c.tc : Thread ReferenceIdeal.nD ReferenceIdeal.τ).loc ReferenceIdeal.main_arg0)) (i 0) (i 2) (i 3)) (i 1).val)
      ∧ r.2.mem ((c.tc : Thread ReferenceIdeal.nD ReferenceIdeal.τ).loc ReferenceIdeal.main_v2_3) = (fun i : ReferenceIdeal.S2x64x128.Idx => scaleR (colA (m ((c.tc : Thread ReferenceIdeal.nD ReferenceIdeal.τ).loc ReferenceIdeal.main_arg0)) (i 0) (i 1) (i 2)))
      ∧ r.2.mem ((c.tc : Thread ReferenceIdeal.nD ReferenceIdeal.τ).loc ReferenceIdeal.main_v2_4) = (fun i : ReferenceIdeal.S2x384x64x128.Idx => byteR (colA (m ((c.tc : Thread ReferenceIdeal.nD ReferenceIdeal.τ).loc ReferenceIdeal.main_arg0)) (i 0) (i 2) (i 3)) (i 1).val)
      ∧ r.2.mem ((c.tc : Thread ReferenceIdeal.nD ReferenceIdeal.τ).loc ReferenceIdeal.main_v2_5) = (fun i : ReferenceIdeal.S2x64x128.Idx => dscaleK (dmaxR (colA (m ((c.tc : Thread ReferenceIdeal.nD ReferenceIdeal.τ).loc ReferenceIdeal.main_arg0)) (i 0) (i 1) (i 2))))
      ∧ r.2.mem ((c.tc : Thread ReferenceIdeal.nD ReferenceIdeal.τ).loc ReferenceIdeal.main_v2_6) = (fun i : ReferenceIdeal.S2x77x64x128.Idx => codeR (colA (m ((c.tc : Thread ReferenceIdeal.nD ReferenceIdeal.τ).loc ReferenceIdeal.main_arg1)) (i 0) (i 2) (i 3)) (i 1).val)
      ∧ r.2.mem ((c.tc : Thread ReferenceIdeal.nD ReferenceIdeal.τ).loc ReferenceIdeal.main_v2_7) = (fun i : ReferenceIdeal.S2x64x128.Idx => scaleR (colA (m ((c.tc : Thread ReferenceIdeal.nD ReferenceIdeal.τ).loc ReferenceIdeal.main_arg1)) (i 0) (i 1) (i 2)))
      ∧ r.2.mem ((c.tc : Thread ReferenceIdeal.nD ReferenceIdeal.τ).loc ReferenceIdeal.main_v2_8) = (fun i : ReferenceIdeal.S2x384x64x128.Idx => byteR (colA (m ((c.tc : Thread ReferenceIdeal.nD ReferenceIdeal.τ).loc ReferenceIdeal.main_arg1)) (i 0) (i 2) (i 3)) (i 1).val)
      ∧ r.2.mem ((c.tc : Thread ReferenceIdeal.nD ReferenceIdeal.τ).loc ReferenceIdeal.main_v2_9) = (fun i : ReferenceIdeal.S2x64x128.Idx => dscaleK (dmaxR (colA (m ((c.tc : Thread ReferenceIdeal.nD ReferenceIdeal.τ).loc ReferenceIdeal.main_arg1)) (i 0) (i 1) (i 2))))
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)) :=
  (θ_run ReferenceIdeal.defs _ _).mono (fun r h c => ⟨((h c).1 4).trans (ReferenceIdeal.Gen.final4 m c),
      ((h c).1 5).trans (ReferenceIdeal.Gen.final5 m c),
      ((h c).1 6).trans (ReferenceIdeal.Gen.final6 m c),
      ((h c).1 7).trans (ReferenceIdeal.Gen.final7 m c),
      ((h c).1 8).trans (ReferenceIdeal.Gen.final8 m c),
      ((h c).1 9).trans (ReferenceIdeal.Gen.final9 m c),
      ((h c).1 10).trans (ReferenceIdeal.Gen.final10 m c),
      ((h c).1 11).trans (ReferenceIdeal.Gen.final11 m c),
      ((h c).1 12).trans (ReferenceIdeal.Gen.final12 m c),
      ((h c).1 13).trans (ReferenceIdeal.Gen.final13 m c),
      ((h c).1 0).trans (((ReferenceIdeal.Gen.dats m 0 c).arrAt_in 0 rfl _).trans ((ReferenceIdeal.Gen.A_eq m c 0).trans (ReferenceIdeal.Gen.V_main_arg0 m c))),
      ((h c).1 2).trans (((ReferenceIdeal.Gen.dats m 0 c).arrAt_in 2 rfl _).trans ((ReferenceIdeal.Gen.A_eq m c 2).trans (ReferenceIdeal.Gen.V_main_arg1 m c)))⟩)
    (ReferenceIdeal.Gen.run_main m ρ)

/-- From equal arguments the kernel and the reference end with equal results. -/
theorem algebraic_proof : algebraic_KernelIdeal_ReferenceIdeal_pre_anchors_in_range := by
  intro m g m' g' hp hm
  refine ⟨_, _, _, _, _, _, _, _, _, _, KernelIdeal.Gen.run_values m g, ?_⟩
  refine (θ_run ReferenceIdeal.defs _ _).mono (fun r h c => ?_) (reference_values m' g')
  obtain ⟨h0, h1, h2, h3, h4, h5, h6, h7, h8, h9, h10, h11⟩ := h c
  obtain ⟨t0, t1⟩ := Pre_anchors_in_range.tests_of _ _ (hp c)
  have r0 := Pre_anchors_in_range.range_at _ t0
  have r1 := Pre_anchors_in_range.range_at _ t1
  obtain ⟨e0, e1⟩ := hm c
  rw [e0] at h0 h2 h3 h4 h5
  rw [e1] at h1 h6 h7 h8 h9
  refine ⟨h0.trans ?_, h1.trans ?_, h2.trans ?_, h3.trans ?_, h4.trans ?_, h5.trans ?_, h6.trans ?_, h7.trans ?_, h8.trans ?_, h9.trans ?_, h10, h11⟩
  · exact funext fun i => (xhat_eq _ (r0 (i 0) (i 2) (i 3)) (i 1).val).symm
  · exact funext fun i => (xhat_eq _ (r1 (i 0) (i 2) (i 3)) (i 1).val).symm
  · exact funext fun i => (code_eq _ (r0 (i 0) (i 2) (i 3)) (i 1).val).symm
  · exact funext fun i => (scale_eq _ (r0 (i 0) (i 1) (i 2))).symm
  · exact funext fun i => (byte_eq _ (r0 (i 0) (i 2) (i 3)) (i 1).val).symm
  · exact funext fun i => (dscale_eq _ (r0 (i 0) (i 1) (i 2))).symm
  · exact funext fun i => (code_eq _ (r1 (i 0) (i 2) (i 3)) (i 1).val).symm
  · exact funext fun i => (scale_eq _ (r1 (i 0) (i 1) (i 2))).symm
  · exact funext fun i => (byte_eq _ (r1 (i 0) (i 2) (i 3)) (i 1).val).symm
  · exact funext fun i => (dscale_eq _ (r1 (i 0) (i 1) (i 2))).symm

end Cert
end
-- ==== Proof.lean ====
module

public import proofs.«01_k».proof.Defs
public import proofs.«01_k».proof.Proof.KernelFrame
public import proofs.«01_k».proof.Proof.Claims
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_anchors_in_range.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g,
    ⟨IdealRules.bf16_pair.bufferStatement Cert.KernelIdeal.S77x16x2x128 Cert.KernelIdeal.S77x16x1x128,
      IdealRules.bf16_pair.statement Cert.KernelIdeal.S1x1x32x128 Cert.KernelIdeal.S1x1x16x128,
      IdealRules.bf16_pair.statement Cert.KernelIdeal.S32x128 Cert.KernelIdeal.S16x128,
      IdealRules.bf16_pair.statement Cert.KernelIdeal.S1x16x2x128 Cert.KernelIdeal.S1x16x1x128⟩,
    Cert.algebraic_proof⟩

end Cert.Proof

end
